-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "score_scale_log2e" .f32 0x3D8293EE#32 (((Real.sqrt 512)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x4096 : Shape := ⟨3, ![2, 512, 4096]⟩
abbrev S2x4096x512 : Shape := ⟨3, ![2, 4096, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S2x1x4096 : Shape := ⟨3, ![2, 1, 4096]⟩
abbrev S1x512x512 : Shape := ⟨3, ![1, 512, 512]⟩
abbrev S1x4096x512 : Shape := ⟨3, ![1, 4096, 512]⟩
abbrev S1x512x4096 : Shape := ⟨3, ![1, 512, 4096]⟩
abbrev S1x1x512 : Shape := ⟨3, ![1, 1, 512]⟩
abbrev S4096x512 : Shape := ⟨2, ![4096, 512]⟩
abbrev S8x512 : Shape := ⟨2, ![8, 512]⟩
abbrev S64x8x512 : Shape := ⟨3, ![64, 8, 512]⟩
abbrev S1x512 : Shape := ⟨2, ![1, 512]⟩
abbrev S512x4096 : Shape := ⟨2, ![512, 4096]⟩

abbrev nBuf : Space → Nat
  | .hbm => 16
  | .vmem => 21
  | .smem => 0
  | _ => 0

abbrev bufTy : (tb : Table) → Fin (tcTables nBuf tb) → BufTy
  | .hbm, ⟨0, _⟩ => ⟨S2x512x4096, .bf16⟩
  | .hbm, ⟨1, _⟩ => ⟨S2x4096x512, .bf16⟩
  | .hbm, ⟨2, _⟩ => ⟨S2x512x4096, .bf16⟩
  | .hbm, ⟨3, _⟩ => ⟨S2x512x4096, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S512x512, .fp8e4m3⟩
  | .hbm, ⟨8, _⟩ => ⟨S512x1, .f32⟩
  | .hbm, ⟨9, _⟩ => ⟨S512x128, .f32⟩
  | .hbm, ⟨10, _⟩ => ⟨S512x1, .f32⟩
  | .hbm, ⟨11, _⟩ => ⟨S512x128, .f32⟩
  | .hbm, ⟨12, _⟩ => ⟨S2x512x4096, .bf16⟩
  | .hbm, ⟨13, _⟩ => ⟨S2x512x4096, .bf16⟩
  | .hbm, ⟨14, _⟩ => ⟨S2x512x4096, .fp8e4m3⟩
  | .hbm, ⟨15, _⟩ => ⟨S2x1x4096, .f32⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512x4096, .bf16⟩
  | .local _ .vmem, ⟨5, _⟩ => ⟨S1x512x4096, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .fp8e4m3⟩
  | .local _ .vmem, ⟨9, _⟩ => ⟨S512x128, .f32⟩
  | .local _ .vmem, ⟨10, _⟩ => ⟨S512x128, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .fp8e4m3⟩
  | .local _ .vmem, ⟨16, _⟩ => ⟨S1x512x512, .fp8e4m3⟩
  | .local _ .vmem, ⟨17, _⟩ => ⟨S1x1x512, .f32⟩
  | .local _ .vmem, ⟨18, _⟩ => ⟨S1x1x512, .f32⟩
  | .local _ .vmem, ⟨19, _⟩ => ⟨S4096x512, .f32⟩
  | .local _ .vmem, ⟨20, _⟩ => ⟨S4096x512, .bf16⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "score_scale_log2e" => some (((Real.sqrt 512)⁻¹ * (Real.log 2)⁻¹ : ℝ) : EReal)
  | _ => none
-- ==== ReferenceIdeal.lean ====
abbrev S2x512x4096 : Shape := ⟨3, ![2, 512, 4096]⟩
abbrev S2x4096x512 : Shape := ⟨3, ![2, 4096, 512]⟩
abbrev S512x512 : Shape := ⟨2, ![512, 512]⟩
abbrev S512 : Shape := ⟨1, ![512]⟩
abbrev S512x1 : Shape := ⟨2, ![512, 1]⟩
abbrev S2x1x4096 : Shape := ⟨3, ![2, 1, 4096]⟩
abbrev S1x512x4096 : Shape := ⟨3, ![1, 512, 4096]⟩
abbrev S512x4096 : Shape := ⟨2, ![512, 4096]⟩
abbrev S1x4096x512 : Shape := ⟨3, ![1, 4096, 512]⟩
abbrev S4096x512 : Shape := ⟨2, ![4096, 512]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 13
  | .vmem => 11
  | .smem => 0
  | _ => 0

abbrev bufTy : (tb : Table) → Fin (tcTables nBuf tb) → BufTy
  | .hbm, ⟨0, _⟩ => ⟨S2x512x4096, .bf16⟩
  | .hbm, ⟨1, _⟩ => ⟨S2x4096x512, .bf16⟩
  | .hbm, ⟨2, _⟩ => ⟨S2x512x4096, .bf16⟩
  | .hbm, ⟨3, _⟩ => ⟨S2x512x4096, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S2x512x4096, .bf16⟩
  | .hbm, ⟨10, _⟩ => ⟨S2x512x4096, .bf16⟩
  | .hbm, ⟨11, _⟩ => ⟨S2x512x4096, .fp8e4m3⟩
  | .hbm, ⟨12, _⟩ => ⟨S2x1x4096, .f32⟩
  | .local _ .vmem, ⟨0, _⟩ => ⟨S2x512x4096, .bf16⟩
  | .local _ .vmem, ⟨1, _⟩ => ⟨S2x4096x512, .bf16⟩
  | .local _ .vmem, ⟨2, _⟩ => ⟨S2x512x4096, .bf16⟩
  | .local _ .vmem, ⟨3, _⟩ => ⟨S2x512x4096, .bf16⟩
  | .local _ .vmem, ⟨4, _⟩ => ⟨S512x512, .fp8e4m3⟩
  | .local _ .vmem, ⟨5, _⟩ => ⟨S512x1, .f32⟩
  | .local _ .vmem, ⟨6, _⟩ => ⟨S512x1, .f32⟩
  | .local _ .vmem, ⟨7, _⟩ => ⟨S2x512x4096, .bf16⟩
  | .local _ .vmem, ⟨8, _⟩ => ⟨S2x512x4096, .bf16⟩
  | .local _ .vmem, ⟨9, _⟩ => ⟨S2x512x4096, .fp8e4m3⟩
  | .local _ .vmem, ⟨10, _⟩ => ⟨S2x1x4096, .f32⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | "score_scale" => some (((Real.sqrt 512)⁻¹ : ℝ) : EReal)
  | _ => none

abbrev grid0 : Pipeline.Grid := .none

abbrev stage0_0 : Fin 1 → Memref sig .tc .vmem S2x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Quant.lean ====
module

public import Idealize.ShloMosaic.PureOps.Ideal
public import Idealize.ShloMosaic.PureOps.Ideal.Laws
public import Idealize.ShloMosaic.Lib.IdealHost

@[expose] public section

noncomputable section

open Idealize.ShloMosaic

namespace Quant

/-- The value of the binary32 pattern with exponent field `u`, sign and fraction zero. -/
def pat (u : BitVec 32) : EReal := Ideal.ofBits .f32 (u <<< 23)

theorem fields : ∀ n : Fin 256, (BitVec.extractLsb' 31 1 (BitVec.ofNat 32 n.val <<< 23) = 0#1)
    ∧ (BitVec.extractLsb' 23 8 (BitVec.ofNat 32 n.val <<< 23)).toNat = n.val
    ∧ (BitVec.extractLsb' 0 23 (BitVec.ofNat 32 n.val <<< 23)).toNat = 0 := by decide +kernel

theorem pat_eq {n : ℕ} (h1 : 1 ≤ n) (h2 : n ≤ 254) :
    pat (BitVec.ofNat 32 n) = (((2 : ℝ) ^ ((n : ℤ) - 127) : ℝ) : EReal) := by
  obtain ⟨ha, hb, hc⟩ := fields ⟨n, by omega⟩
  simp only [] at ha hb hc
  simp only [pat, Ideal.ofBits, Ideal.ieee]
  rw [show (8 + 23 : ℕ) = 31 from rfl, ha, hb, hc]
  rw [if_neg (by omega), if_neg (by omega)]
  refine congrArg Real.toEReal ?_
  simp only [show ((0#1 == 1#1) = false) from rfl, Bool.false_eq_true, if_false]
  push_cast
  rw [show (n : ℤ) - 127 = 23 + ((n : ℤ) - 127 - 23) by ring, zpow_add₀ (two_ne_zero : (2 : ℝ) ≠ 0) 23 _,
    show (23 : ℤ) + ((n : ℤ) - 127 - 23) - 23 = (n : ℤ) - 127 - 23 by ring]
  norm_num

theorem pat_top : pat (BitVec.ofNat 32 255) = ⊤ := by
  obtain ⟨ha, hb, hc⟩ := fields ⟨255, by omega⟩
  simp only [] at ha hb hc
  simp only [pat, Ideal.ofBits, Ideal.ieee]
  rw [show (8 + 23 : ℕ) = 31 from rfl, ha, hb, hc]
  norm_num

theorem pat_mono {a b : ℕ} (h1 : 1 ≤ a) (h : a ≤ b) (h2 : b ≤ 255) :
    pat (BitVec.ofNat 32 a) ≤ pat (BitVec.ofNat 32 b) := by
  rcases Nat.lt_or_ge b 255 with hb | hb
  · rw [pat_eq h1 (by omega), pat_eq (by omega) (by omega)]
    exact EReal.coe_le_coe_iff.mpr (zpow_le_zpow_right₀ (by norm_num) (by omega))
  · obtain rfl : b = 255 := by omega
    rw [pat_top]; exact le_top

/-- One step of the search for the exponent field of `t`. -/
def step (t : EReal) (u b : BitVec 32) : BitVec 32 := if pat (u + b) ≤ t then u + b else u

/-- The field so far is `k`: its pattern is at most `t`, and no pattern from `k + b` on is. -/
def Inv (t : EReal) (u : BitVec 32) (b : ℕ) : Prop :=
  ∃ k : ℕ, u = BitVec.ofNat 32 k ∧ k + b ≤ 256 ∧ (k = 0 ∨ pat (BitVec.ofNat 32 k) ≤ t)
    ∧ ∀ n, k + b ≤ n → n ≤ 255 → ¬ pat (BitVec.ofNat 32 n) ≤ t

theorem step_inv {t : EReal} {u : BitVec 32} {b c : ℕ} (hc : c = b + b) (hb : 0 < b) (h : Inv t u c) :
    Inv t (step t u (BitVec.ofNat 32 b)) b := by
  subst hc
  obtain ⟨k, rfl, h1, h2, h3⟩ := h
  unfold step
  rw [← BitVec.ofNat_add]
  split_ifs with hp
  · exact ⟨k + b, rfl, by omega, .inr hp, fun n hn => h3 n (by omega)⟩
  · exact ⟨k, rfl, by omega, h2, fun n hn hn' hle =>
      hp ((pat_mono (by omega) hn hn').trans hle)⟩

/-- The exponent field the eight steps find. -/
def field (t : EReal) : BitVec 32 :=
  step t (step t (step t (step t (step t (step t (step t (step t 0#32 128#32) 64#32) 32#32) 16#32) 8#32) 4#32) 2#32) 1#32

theorem field_inv (t : EReal) : Inv t (field t) 1 := by
  have h0 : Inv t 0#32 256 := ⟨0, rfl, by omega, .inl rfl, fun n h h' => by omega⟩
  exact step_inv (b := 1) rfl (by omega) <| step_inv (b := 2) rfl (by omega) <| step_inv (b := 4) rfl (by omega) <|
    step_inv (b := 8) rfl (by omega) <| step_inv (b := 16) rfl (by omega) <| step_inv (b := 32) rfl (by omega) <|
    step_inv (b := 64) rfl (by omega) <| step_inv (b := 128) rfl (by omega) h0

/-- The exponent of a field: 0 for a field of 0, else the field (at most 252) less 126. -/
def expo (u : BitVec 32) : BitVec 32 :=
  let w := if u.sle 252#32 then u else 252#32
  if w = 0#32 then 0#32 else w - 126#32

theorem expo_add : ∀ n : Fin 256, expo (BitVec.ofNat 32 n.val) + 127#32
    = BitVec.ofNat 32 (if n.val = 0 then 127 else min n.val 252 + 1) := by decide +kernel
theorem expo_sub : ∀ n : Fin 256, 127#32 - expo (BitVec.ofNat 32 n.val)
    = BitVec.ofNat 32 (if n.val = 0 then 127 else 253 - min n.val 252) := by decide +kernel

/-- The exponent by the floor of the base-2 logarithm, 0 below the least normal number, at most 126. -/
def eLog (t : EReal) : EReal :=
  if t < Ideal.ofBits .f32 0x00800000#32 then Ideal.ofBits .f32 0x00000000#32
  else min (Ideal.liftRound Int.floor (Ideal.div (Ideal.log t) ((Real.log 2 : ℝ) : EReal))
    + Ideal.ofBits .f32 0x3F800000#32) (Ideal.ofBits .f32 0x42FC0000#32)

theorem c126 : Ideal.ofBits .f32 0x42FC0000#32 = (((126 : ℤ) : ℝ) : EReal) := by
  simp [Ideal.ofBits, Ideal.ieee, -EReal.coe_mul]; norm_num

theorem exp2_int (k : ℤ) : Ideal.exp2 (((k : ℝ)) : EReal) = (((2 : ℝ) ^ k : ℝ) : EReal) := by
  show ((Real.rpow 2 (k : ℝ) : ℝ) : EReal) = _
  congr 1
  exact Real.rpow_intCast 2 k

/-- The exponent by logarithm is the field's. -/
theorem eLog_eq (t : EReal) : ∃ n : ℕ, n ≤ 255 ∧ field t = BitVec.ofNat 32 n
    ∧ eLog t = (((if n = 0 then 0 else (min n 252 : ℕ) - 126 : ℤ) : ℝ) : EReal) := by
  obtain ⟨n, hf, hn, hl, hu⟩ := field_inv t
  refine ⟨n, by omega, hf, ?_⟩
  have p1 : Ideal.ofBits .f32 0x00800000#32 = pat (BitVec.ofNat 32 1) := rfl
  unfold eLog
  rw [p1]
  by_cases h0 : n = 0
  · subst h0
    rw [if_pos (lt_of_not_ge (hu 1 (by omega) (by omega))), if_pos rfl, Ideal.ofBits_zero_f32]
    simp
  · have hl := hl.resolve_left h0
    rw [if_neg (not_lt_of_ge ((pat_mono le_rfl (by omega) (by omega)).trans hl)), if_neg h0, c126,
      Ideal.ofBits_one_f32]
    by_cases h255 : n = 255
    · subst h255
      rw [pat_top, top_le_iff] at hl
      subst hl
      have hlog : (0 : ℝ) < (Real.log 2)⁻¹ := inv_pos.mpr (Real.log_pos (by norm_num))
      have : Ideal.div (Ideal.log ⊤) ((Real.log 2 : ℝ) : EReal) = ⊤ := by
        show Ideal.div ⊤ _ = ⊤
        rw [Ideal.div, if_neg (by exact_mod_cast (Real.log_pos (by norm_num)).ne'), ← EReal.coe_inv]
        exact EReal.top_mul_coe_of_pos hlog
      rw [this]
      show min ((⊤ : EReal) + 1) _ = _
      rw [show ((⊤ : EReal) + 1) = ⊤ from rfl, min_eq_right le_top]
      norm_num
    · have ht : t ≠ ⊤ := fun h => hu 255 (by omega) le_rfl (by rw [h]; exact le_top)
      rw [pat_eq (by omega) (by omega)] at hl
      have hb : t ≠ ⊥ := fun h => by rw [h] at hl; exact absurd hl (by simp)
      lift t to ℝ using ⟨ht, hb⟩
      have hl : (2 : ℝ) ^ ((n : ℤ) - 127) ≤ t := by exact_mod_cast hl
      have hpos : 0 < t := lt_of_lt_of_le (by positivity) hl
      have hlog : 0 < Real.log 2 := Real.log_pos (by norm_num)
      have e1 : Ideal.div (Ideal.log (t : EReal)) ((Real.log 2 : ℝ) : EReal) = ((Real.log t * (Real.log 2)⁻¹ : ℝ) : EReal) := by
        show Ideal.div (if t ≤ 0 then ⊥ else (Real.log t : EReal)) _ = _
        rw [if_neg (not_le.mpr hpos), Ideal.div, if_neg (by exact_mod_cast hlog.ne'), ← EReal.coe_inv, ← EReal.coe_mul]
      rw [e1, Ideal.liftRound_coe, ← EReal.coe_one, ← EReal.coe_add]
      have hge : (n : ℤ) - 127 ≤ ⌊Real.log t * (Real.log 2)⁻¹⌋ := by
        rw [Int.le_floor, ← div_eq_mul_inv, le_div_iff₀ hlog, ← Real.log_zpow]
        exact Real.log_le_log (by positivity) hl
      have key : min (⌊Real.log t * (Real.log 2)⁻¹⌋ + 1) 126 = ((min n 252 : ℕ) : ℤ) - 126 := by
        by_cases h254 : n = 254
        · subst h254; rw [min_eq_right (by omega)]; norm_num
        · have hlt := hu (n + 1) (by omega) (by omega)
          rw [pat_eq (by omega) (by omega), not_le] at hlt
          have hlt : t < (2 : ℝ) ^ (((n + 1 : ℕ) : ℤ) - 127) := by exact_mod_cast hlt
          have : ⌊Real.log t * (Real.log 2)⁻¹⌋ < ((n + 1 : ℕ) : ℤ) - 127 := by
            rw [Int.floor_lt, ← div_eq_mul_inv, div_lt_iff₀ hlog, ← Real.log_zpow]
            exact Real.log_lt_log hpos hlt
          omega
      refine (EReal.coe_strictMono.monotone.map_min (a := ((⌊Real.log t * (Real.log 2)⁻¹⌋ : ℤ) : ℝ) + 1)
        (b := ((126 : ℤ) : ℝ))).symm.trans (congrArg Real.toEReal ?_)
      rw [← key]
      push_cast
      rfl

theorem scale_eq (t : EReal) : pat (expo (field t) + 127#32) = Ideal.exp2 (eLog t) := by
  obtain ⟨n, hn, hf, he⟩ := eLog_eq t
  rw [hf, he, exp2_int, expo_add ⟨n, by omega⟩]
  simp only []
  split_ifs with h
  · rw [pat_eq (by omega) (by omega)]; norm_num
  · rw [pat_eq (by omega) (by omega)]; congr 2; push_cast; omega

theorem inv_eq (t : EReal) :
    pat (127#32 - expo (field t)) = Ideal.exp2 (Ideal.ofBits .f32 0x00000000#32 - eLog t) := by
  obtain ⟨n, hn, hf, he⟩ := eLog_eq t
  rw [hf, he, Ideal.ofBits_zero_f32, ← EReal.coe_zero, ← EReal.coe_sub, show ∀ z : ℤ, (0 : ℝ) - (z : ℝ) = ((-z : ℤ) : ℝ)
    from fun z => by push_cast; ring, exp2_int, expo_sub ⟨n, by omega⟩]
  simp only []
  split_ifs with h
  · rw [pat_eq (by omega) (by omega)]; norm_num
  · rw [pat_eq (by omega) (by omega)]; congr 2; omega

end Quant

end
-- ==== Proof.Soft.lean ====
module

public import Idealize.ShloMosaic.PureOps.Ideal
public import Idealize.ShloMosaic.PureOps.Ideal.Laws
public import Idealize.ShloMosaic.Lib.IdealHost
public import proofs.«01_k».proof.Proof.Quant

@[expose] public section

noncomputable section

open Idealize.ShloMosaic

namespace Soft

/-- The scale of the scores, and that scale in base 2. -/
def sg : ℝ := (Real.sqrt 512)⁻¹
def cb : ℝ := (Real.sqrt 512)⁻¹ * (Real.log 2)⁻¹

theorem sg_pos : 0 < sg := inv_pos.mpr (Real.sqrt_pos.mpr (by norm_num))
theorem log2_pos : 0 < Real.log 2 := Real.log_pos (by norm_num)
theorem cb_pos : 0 < cb := mul_pos sg_pos (inv_pos.mpr log2_pos)

/-- The largest of finitely many extended reals. -/
def mx {n : ℕ} (s : Fin n → EReal) : EReal := Finset.univ.fold max ⊥ s

theorem le_mx {n : ℕ} (s : Fin n → EReal) (j : Fin n) : s j ≤ mx s :=
  (Finset.le_fold_max (b := ⊥) (f := s) (s := Finset.univ) (s j)).mpr (.inr ⟨j, Finset.mem_univ j, le_rfl⟩)

theorem mx_le {n : ℕ} {s : Fin n → EReal} {b : EReal} (h : ∀ j, s j ≤ b) : mx s ≤ b :=
  (Finset.fold_max_le (b := ⊥) (f := s) (s := Finset.univ) b).mpr ⟨bot_le, fun j _ => h j⟩

theorem mx_mul {n : ℕ} (s : Fin n → EReal) : mx (fun k => s k * (sg : EReal)) = mx s * (sg : EReal) := by
  have h0 : (0 : EReal) ≤ (sg : EReal) := by exact_mod_cast sg_pos.le
  have hm : Monotone fun x : EReal => x * (sg : EReal) := fun a b h => mul_le_mul_of_nonneg_right h h0
  have hb : (⊥ : EReal) * (sg : EReal) = ⊥ := EReal.bot_mul_coe_of_pos sg_pos
  have := Finset.fold_hom (op := max) (op' := max) (m := fun x : EReal => x * (sg : EReal))
    (f := s) (b := ⊥) (s := Finset.univ) (fun x y => hm.map_max)
  simp only [hb] at this
  exact this

/-- One weight before normalising. -/
def num {n : ℕ} (s : Fin n → EReal) (j : Fin n) : EReal :=
  Ideal.exp (s j * (sg : EReal) - mx (fun k => s k * (sg : EReal)))

theorem exp2_exp (x y : EReal) : Ideal.exp2 (x * (cb : EReal) - y * (cb : EReal)) = Ideal.exp (x * (sg : EReal) - y * (sg : EReal)) := by
  induction x with
  | bot =>
    rw [EReal.bot_mul_coe_of_pos cb_pos, EReal.bot_mul_coe_of_pos sg_pos]
    simp only [EReal.bot_sub]; rfl
  | top =>
    rw [EReal.top_mul_coe_of_pos cb_pos, EReal.top_mul_coe_of_pos sg_pos]
    induction y with
    | bot => rw [EReal.bot_mul_coe_of_pos cb_pos, EReal.bot_mul_coe_of_pos sg_pos]; rfl
    | top => rw [EReal.top_mul_coe_of_pos cb_pos, EReal.top_mul_coe_of_pos sg_pos]; rfl
    | coe y =>
      rw [← EReal.coe_mul, ← EReal.coe_mul, EReal.top_sub_coe, EReal.top_sub_coe]; rfl
  | coe x =>
    induction y with
    | bot => rw [EReal.bot_mul_coe_of_pos cb_pos, EReal.bot_mul_coe_of_pos sg_pos, ← EReal.coe_mul, ← EReal.coe_mul, EReal.coe_sub_bot, EReal.coe_sub_bot]; rfl
    | top => rw [EReal.top_mul_coe_of_pos cb_pos, EReal.top_mul_coe_of_pos sg_pos, EReal.sub_top, EReal.sub_top]; rfl
    | coe y =>
      rw [← EReal.coe_mul, ← EReal.coe_mul, ← EReal.coe_mul, ← EReal.coe_mul, ← EReal.coe_sub, ← EReal.coe_sub]
      show ((Real.rpow 2 _ : ℝ) : EReal) = ((Real.exp _ : ℝ) : EReal)
      refine congrArg Real.toEReal ?_
      refine (Real.rpow_def_of_pos (by norm_num : (0 : ℝ) < 2) _).trans (congrArg Real.exp ?_)
      unfold cb sg
      field_simp [log2_pos.ne']

theorem num_eq {n : ℕ} (s : Fin n → EReal) (j : Fin n) :
    Ideal.exp2 (s j * (cb : EReal) - mx s * (cb : EReal)) = num s j := by
  rw [num, mx_mul, exp2_exp]

/-- Key `k * 8 + r` of chunk `a`. -/
def key (a : Fin 8) (k : Fin 64) (r : Fin 8) : Fin 4096 := ⟨512 * a.val + (k.val * 8 + r.val), by omega⟩

theorem key_surj (j : Fin 4096) : ∃ a k r, key a k r = j :=
  ⟨⟨j.val / 512, by omega⟩, ⟨j.val % 512 / 8, by omega⟩, ⟨j.val % 8, by omega⟩, Fin.ext (by simp only [key]; omega)⟩

/-- The largest over all keys, found chunk by chunk in eight rows. -/
theorem mx_blocks (f : Fin 4096 → EReal) :
    mx (fun r : Fin 8 => max (max (max (max (max (max (max (max ⊥
      (mx fun k => f (key 0 k r))) (mx fun k => f (key 1 k r))) (mx fun k => f (key 2 k r))) (mx fun k => f (key 3 k r)))
      (mx fun k => f (key 4 k r))) (mx fun k => f (key 5 k r))) (mx fun k => f (key 6 k r))) (mx fun k => f (key 7 k r)))
    = mx f := by
  refine le_antisymm (mx_le fun r => ?_) (mx_le fun j => ?_)
  · simp only [max_le_iff]
    refine ⟨⟨⟨⟨⟨⟨⟨⟨bot_le, ?_⟩, ?_⟩, ?_⟩, ?_⟩, ?_⟩, ?_⟩, ?_⟩, ?_⟩ <;> exact mx_le fun k => le_mx f _
  · obtain ⟨a, k, r, rfl⟩ := key_surj j
    refine le_trans ?_ (le_mx _ r)
    have h := le_mx (fun k => f (key a k r)) k
    simp only [le_max_iff]
    fin_cases a <;> simp only [] at h <;> tauto

/-- The sum over all keys, likewise. -/
theorem sum_blocks (f : Fin 4096 → EReal) :
    (∑ r : Fin 8, (((((((((∑ k, f (key 0 k r)) + ∑ k, f (key 1 k r)) + ∑ k, f (key 2 k r)) + ∑ k, f (key 3 k r))
      + ∑ k, f (key 4 k r)) + ∑ k, f (key 5 k r)) + ∑ k, f (key 6 k r)) + ∑ k, f (key 7 k r))))
    = ∑ j, f j := by
  have h1 : ∑ j, f j = ∑ a : Fin 8, ∑ x : Fin 512, f ⟨512 * a.val + x.val, by omega⟩ := by
    rw [← Fintype.sum_prod_type' (f := fun (a : Fin 8) (x : Fin 512) => f ⟨512 * a.val + x.val, by omega⟩)]
    refine (Fintype.sum_equiv (finProdFinEquiv (m := 8) (n := 512)) _ _ fun p => ?_).symm
    exact congrArg f (Fin.ext (by simp [finProdFinEquiv]; omega))
  have h2 : ∀ a : Fin 8, ∑ x : Fin 512, f ⟨512 * a.val + x.val, by omega⟩ = ∑ r : Fin 8, ∑ k : Fin 64, f (key a k r) := fun a => by
    rw [Finset.sum_comm, ← Fintype.sum_prod_type' (f := fun (k : Fin 64) (r : Fin 8) => f (key a k r))]
    refine (Fintype.sum_equiv (finProdFinEquiv (m := 64) (n := 8)) _ _ fun p => ?_).symm
    exact congrArg f (Fin.ext (by simp [finProdFinEquiv, key]; omega))
  rw [h1, Finset.sum_congr rfl fun a _ => h2 a, Finset.sum_comm]
  refine Finset.sum_congr rfl fun r _ => ?_
  rw [Fin.sum_univ_eight]

/-- One weight. -/
def wt (s : Fin 4096 → EReal) (j : Fin 4096) : EReal := num s j * Ideal.div 1 (∑ k, num s k)

/-- One channel of one token: the values by the weights. -/
def ov (v : Fin 512 → Fin 4096 → EReal) (s : Fin 4096 → EReal) (d : Fin 512) : EReal := ∑ j, v d j * wt s j

/-- The largest magnitude of a token's channels, as a part of the quantiser's range. -/
def tt (o : Fin 512 → EReal) : EReal :=
  Finset.univ.fold max (Ideal.ofBits .f32 0xFF800000#32) (fun d => FloatOps.absf (F := Ideal) (φ := .f32) (o d))
    * Ideal.ofBits .f32 0x3B124925#32

/-- The token's scale. -/
def sc (o : Fin 512 → EReal) : EReal := Ideal.exp2 (Quant.eLog (tt o))

/-- The token's codes. -/
def cd (o : Fin 512 → EReal) (d : Fin 512) : EReal :=
  min (Ideal.ofBits .f32 0x43E00000#32) (max (Ideal.ofBits .f32 0xC3E00000#32)
    (o d * Ideal.exp2 (Ideal.ofBits .f32 0x00000000#32 - Quant.eLog (tt o))))

/-- The token's projection. -/
def pj (w : Fin 512 → Fin 512 → EReal) (so bo : Fin 512 → EReal) (o : Fin 512 → EReal) (e : Fin 512) : EReal :=
  (∑ d, w d e * cd o d) * sc o * so e + bo e

end Soft

end
-- ==== Proof.Pay.lean ====
module

public import proofs.«01_k».proof.Proof.Gen.KernelIdeal.Value
public import proofs.«01_k».proof.Proof.Soft
public import Idealize.ShloMosaic.Lib.Pointwise

@[expose] public section

set_option maxRecDepth 16384
set_option maxHeartbeats 1000000

noncomputable section

open Idealize.ShloMosaic Idealize.ShloMosaic.TcCoe Idealize.SL.Sem

namespace Cert.KernelIdeal.Gen

/-- The base-2 scale of the scores. -/
theorem cb_named : Named.named (F := Ideal) κ "score_scale_log2e" (φ := .f32) 0x3D8293EE#32 = (Soft.cb : EReal) :=
  IdealRules.named_const.ideal_named_scalar _ _ _ _ rfl

theorem bot_bits : Ideal.ofBits .f32 0xFF800000#32 = ⊥ := by simp [Ideal.ofBits, Ideal.ieee]
theorem one_bits : Ideal.ofBits .f32 0x3F800000#32 = 1 := Ideal.ofBits_one_f32

/-- Row `x * 8 + r` of a chunk seen as 64 groups of eight. -/
def at8 (x : Fin 64) (r : Fin 8) : Fin 512 := ⟨x.val * 8 + r.val, by omega⟩

theorem m5 (q : Vec Ideal S1x512x512 .bf16) (r l : Fin 512) : k0_pay5 q (ix2 r l) = q (ix3 (0 : Fin 1) r l) := by pointwise [k0_pay5]

theorem m6 (q k : Vec Ideal S1x512x512 .bf16) (r l : Fin 512) : k0_pay6 q k (ix2 r l) = ∑ d : Fin 512, k (ix3 (0 : Fin 1) r d) * q (ix3 (0 : Fin 1) d l) := by
  pointwise [k0_pay6, k0_pay5]

theorem m8 (q k : Vec Ideal S1x512x512 .bf16) (r l : Fin 512) : k0_pay8 q k (ix2 r l) = ∑ d : Fin 512, k (ix3 (0 : Fin 1) r d) * q (ix3 (0 : Fin 1) d l) := by
  pointwise [k0_pay8, k0_pay5]

theorem m10 (q k : Vec Ideal S1x512x512 .bf16) (r l : Fin 512) : k0_pay10 q k (ix2 r l) = ∑ d : Fin 512, k (ix3 (0 : Fin 1) r d) * q (ix3 (0 : Fin 1) d l) := by
  pointwise [k0_pay10, k0_pay5]

theorem m13 (q : FVec Ideal S512x512 .bf16) (k : Vec Ideal S1x512x512 .bf16) (r l : Fin 512) : k0_pay13 q k (ix2 r l) = ∑ d : Fin 512, k (ix3 (0 : Fin 1) r d) * q (ix2 d l) := by
  pointwise [k0_pay13]

theorem m15 (q : FVec Ideal S512x512 .bf16) (k : Vec Ideal S1x512x512 .bf16) (r l : Fin 512) : k0_pay15 q k (ix2 r l) = ∑ d : Fin 512, k (ix3 (0 : Fin 1) r d) * q (ix2 d l) := by
  pointwise [k0_pay15]

theorem m17 (q : FVec Ideal S512x512 .bf16) (k : Vec Ideal S1x512x512 .bf16) (r l : Fin 512) : k0_pay17 q k (ix2 r l) = ∑ d : Fin 512, k (ix3 (0 : Fin 1) r d) * q (ix2 d l) := by
  pointwise [k0_pay17]

theorem m20 (q : FVec Ideal S512x512 .bf16) (k : Vec Ideal S1x512x512 .bf16) (r l : Fin 512) : k0_pay20 q k (ix2 r l) = ∑ d : Fin 512, k (ix3 (0 : Fin 1) r d) * q (ix2 d l) := by
  pointwise [k0_pay20]

theorem m22 (q : FVec Ideal S512x512 .bf16) (k : Vec Ideal S1x512x512 .bf16) (r l : Fin 512) : k0_pay22 q k (ix2 r l) = ∑ d : Fin 512, k (ix3 (0 : Fin 1) r d) * q (ix2 d l) := by
  pointwise [k0_pay22]

theorem c7 (q k : Vec Ideal S1x512x512 .bf16) (r l : Fin 512) : k0_pay7 q k (ix2 r l) = k0_pay6 q k (ix2 r l) := by pointwise [k0_pay7]

theorem c9 (q k : Vec Ideal S1x512x512 .bf16) (r l : Fin 512) : k0_pay9 q k (ix2 r l) = k0_pay8 q k (ix2 r l) := by pointwise [k0_pay9]

theorem c11 (q k : Vec Ideal S1x512x512 .bf16) (r l : Fin 512) : k0_pay11 q k (ix2 r l) = k0_pay10 q k (ix2 r l) := by pointwise [k0_pay11]

theorem c14 (q : FVec Ideal S512x512 .bf16) (k : Vec Ideal S1x512x512 .bf16) (r l : Fin 512) : k0_pay14 q k (ix2 r l) = k0_pay13 q k (ix2 r l) := by pointwise [k0_pay14]

theorem c16 (q : FVec Ideal S512x512 .bf16) (k : Vec Ideal S1x512x512 .bf16) (r l : Fin 512) : k0_pay16 q k (ix2 r l) = k0_pay15 q k (ix2 r l) := by pointwise [k0_pay16]

theorem c18 (q : FVec Ideal S512x512 .bf16) (k : Vec Ideal S1x512x512 .bf16) (r l : Fin 512) : k0_pay18 q k (ix2 r l) = k0_pay17 q k (ix2 r l) := by pointwise [k0_pay18]

theorem c23 (q : FVec Ideal S512x512 .bf16) (k : Vec Ideal S1x512x512 .bf16) (r l : Fin 512) : k0_pay23 q k (ix2 r l) = k0_pay22 q k (ix2 r l) := by pointwise [k0_pay23]

theorem c30 (v : FVec Ideal S512x512 .f32) (r l : Fin 512) : k0_pay30 v (ix2 r l) = k0_pay29 v (ix2 r l) := by pointwise [k0_pay30]

theorem c32 (m : FVec Ideal S1x512 .f32) (s : FVec Ideal S512x512 .f32) (r l : Fin 512) : k0_pay32 m s (ix2 r l) = k0_pay31 m s (ix2 r l) := by pointwise [k0_pay32]

theorem c35 (m : FVec Ideal S1x512 .f32) (s : FVec Ideal S512x512 .f32) (r l : Fin 512) : k0_pay35 m s (ix2 r l) = k0_pay33 m s (ix2 r l) := by pointwise [k0_pay35]

theorem c40 (m : FVec Ideal S1x512 .f32) (s : FVec Ideal S512x512 .f32) (r l : Fin 512) : k0_pay40 m s (ix2 r l) = k0_pay39 m s (ix2 r l) := by pointwise [k0_pay40]

theorem c42 (m : FVec Ideal S1x512 .f32) (s : FVec Ideal S512x512 .f32) (r l : Fin 512) : k0_pay42 m s (ix2 r l) = k0_pay41 m s (ix2 r l) := by pointwise [k0_pay42]

theorem c27 (q : FVec Ideal S512x512 .bf16) (m : FVec Ideal S8x512 .f32) (s3 : FVec Ideal S512x512 .f32) (k : Vec Ideal S1x512x512 .bf16) (s : FVec Ideal S512x512 .f32) (r l : Fin 512) : k0_pay27 q m s3 k s (ix2 r l) = k0_pay25 q m s3 k s (ix2 r l) := by pointwise [k0_pay27]

theorem c21 (v : FVec Ideal S512x512 .f32) (r l : Fin 512) : k0_pay21 v (ix2 r l) = v (ix2 r l) := by pointwise [k0_pay21]

theorem c38 (v : FVec Ideal S512x512 .f32) (r l : Fin 512) : k0_pay38 v (ix2 r l) = v (ix2 r l) := by pointwise [k0_pay38]

theorem c45 (v : FVec Ideal S512x512 .f32) (r l : Fin 512) : k0_pay45 v (ix2 r l) = v (ix2 r l) := by pointwise [k0_pay45]

theorem e31 (m : FVec Ideal S1x512 .f32) (s : FVec Ideal S512x512 .f32) (r l : Fin 512) : k0_pay31 m s (ix2 r l) = Ideal.exp2 (s (ix2 r l) * (Soft.cb : EReal) - m (ix2 (0 : Fin 1) l)) := by
  pointwise [k0_pay31]
  rw [cb_named]; rfl

theorem e33 (m : FVec Ideal S1x512 .f32) (s : FVec Ideal S512x512 .f32) (r l : Fin 512) : k0_pay33 m s (ix2 r l) = Ideal.exp2 (s (ix2 r l) * (Soft.cb : EReal) - m (ix2 (0 : Fin 1) l)) := by
  pointwise [k0_pay33]
  rw [cb_named]; rfl

theorem e36 (m : FVec Ideal S1x512 .f32) (s : FVec Ideal S512x512 .f32) (r l : Fin 512) : k0_pay36 m s (ix2 r l) = Ideal.exp2 (s (ix2 r l) * (Soft.cb : EReal) - m (ix2 (0 : Fin 1) l)) := by
  pointwise [k0_pay36]
  rw [cb_named]; rfl

theorem e39 (m : FVec Ideal S1x512 .f32) (s : FVec Ideal S512x512 .f32) (r l : Fin 512) : k0_pay39 m s (ix2 r l) = Ideal.exp2 (s (ix2 r l) * (Soft.cb : EReal) - m (ix2 (0 : Fin 1) l)) := by
  pointwise [k0_pay39]
  rw [cb_named]; rfl

theorem e41 (m : FVec Ideal S1x512 .f32) (s : FVec Ideal S512x512 .f32) (r l : Fin 512) : k0_pay41 m s (ix2 r l) = Ideal.exp2 (s (ix2 r l) * (Soft.cb : EReal) - m (ix2 (0 : Fin 1) l)) := by
  pointwise [k0_pay41]
  rw [cb_named]; rfl

theorem e43 (m : FVec Ideal S1x512 .f32) (s : FVec Ideal S512x512 .f32) (r l : Fin 512) : k0_pay43 m s (ix2 r l) = Ideal.exp2 (s (ix2 r l) * (Soft.cb : EReal) - m (ix2 (0 : Fin 1) l)) := by
  pointwise [k0_pay43]
  rw [cb_named]; rfl

theorem e25 (q : FVec Ideal S512x512 .bf16) (m : FVec Ideal S8x512 .f32) (s3 : FVec Ideal S512x512 .f32) (k : Vec Ideal S1x512x512 .bf16) (s : FVec Ideal S512x512 .f32) (r l : Fin 512) : k0_pay25 q m s3 k s (ix2 r l) = Ideal.exp2 (s (ix2 r l) * (Soft.cb : EReal) - k0_pay24 q m s3 k (ix2 (0 : Fin 1) l)) := by
  pointwise [k0_pay25]
  rw [cb_named]; rfl

theorem e28 (q : FVec Ideal S512x512 .bf16) (m : FVec Ideal S8x512 .f32) (s3 : FVec Ideal S512x512 .f32) (k : Vec Ideal S1x512x512 .bf16) (s : FVec Ideal S512x512 .f32) (r l : Fin 512) : k0_pay28 q m s3 k s (ix2 r l) = s (ix2 r l) * (Soft.cb : EReal) - k0_pay24 q m s3 k (ix2 (0 : Fin 1) l) := by
  pointwise [k0_pay28]
  rw [cb_named]

theorem e29 (v : FVec Ideal S512x512 .f32) (r l : Fin 512) : k0_pay29 v (ix2 r l) = Ideal.exp2 (v (ix2 r l)) := by
  pointwise [k0_pay29]
  rfl

theorem x12 (q k0 k1 k2 : Vec Ideal S1x512x512 .bf16) (r : Fin 8) (l : Fin 512) : k0_pay12 q k0 k1 k2 (ix2 r l)
    = max (max (max ⊥ (Soft.mx fun x => k0_pay6 q k0 (ix2 (at8 x r) l))) (Soft.mx fun x => k0_pay8 q k1 (ix2 (at8 x r) l)))
      (Soft.mx fun x => k0_pay10 q k2 (ix2 (at8 x r) l)) := by
  pointwise [k0_pay12]
  rw [bot_bits]; rfl

theorem x19 (q : FVec Ideal S512x512 .bf16) (m : FVec Ideal S8x512 .f32) (k0 k1 k2 : Vec Ideal S1x512x512 .bf16) (r : Fin 8) (l : Fin 512) : k0_pay19 q m k0 k1 k2 (ix2 r l)
    = max (max (max (m (ix2 r l)) (Soft.mx fun x => k0_pay13 q k0 (ix2 (at8 x r) l))) (Soft.mx fun x => k0_pay15 q k1 (ix2 (at8 x r) l)))
      (Soft.mx fun x => k0_pay17 q k2 (ix2 (at8 x r) l)) := by
  pointwise [k0_pay19]
  rw [bot_bits]; rfl

theorem x24 (q : FVec Ideal S512x512 .bf16) (m : FVec Ideal S8x512 .f32) (s : FVec Ideal S512x512 .f32) (k : Vec Ideal S1x512x512 .bf16) (l : Fin 512) : k0_pay24 q m s k (ix2 (0 : Fin 1) l)
    = (Soft.mx fun r : Fin 8 => max (max (m (ix2 r l)) (Soft.mx fun x => s (ix2 (at8 x r) l))) (Soft.mx fun x => k0_pay22 q k (ix2 (at8 x r) l)))
      * (Soft.cb : EReal) := by
  pointwise [k0_pay24]
  rw [bot_bits, cb_named]; rfl

theorem a26 (q : FVec Ideal S512x512 .bf16) (m : FVec Ideal S8x512 .f32) (s3 : FVec Ideal S512x512 .f32) (k : Vec Ideal S1x512x512 .bf16) (s : FVec Ideal S512x512 .f32) (r : Fin 8) (l : Fin 512) : k0_pay26 q m s3 k s (ix2 r l) = ∑ x : Fin 64, k0_pay25 q m s3 k s (ix2 (at8 x r) l) := by
  pointwise [k0_pay26]
  first | done | rfl | exact zero_add _

theorem a34 (m : FVec Ideal S1x512 .f32) (a : FVec Ideal S8x512 .f32) (u s0 s1 : FVec Ideal S512x512 .f32) (r : Fin 8) (l : Fin 512) : k0_pay34 m a u s0 s1 (ix2 r l)
    = a (ix2 r l) + ∑ x : Fin 64, k0_pay29 u (ix2 (at8 x r) l) + ∑ x : Fin 64, k0_pay31 m s0 (ix2 (at8 x r) l) + ∑ x : Fin 64, k0_pay33 m s1 (ix2 (at8 x r) l) := by
  pointwise [k0_pay34]
  first | done | rfl

theorem a44 (m : FVec Ideal S1x512 .f32) (a : FVec Ideal S8x512 .f32) (s s0 s1 s2 : FVec Ideal S512x512 .f32) (r : Fin 8) (l : Fin 512) : k0_pay44 m a (k0_pay37 m s) s0 s1 s2 (ix2 r l)
    = a (ix2 r l) + ∑ x : Fin 64, k0_pay36 m s (ix2 (at8 x r) l) + ∑ x : Fin 64, k0_pay39 m s0 (ix2 (at8 x r) l)
      + ∑ x : Fin 64, k0_pay41 m s1 (ix2 (at8 x r) l) + ∑ x : Fin 64, k0_pay43 m s2 (ix2 (at8 x r) l) := by
  pointwise [k0_pay44, k0_pay37]
  first | done | rfl

theorem d46 (a : FVec Ideal S8x512 .f32) (l : Fin 512) : k0_pay46 a (ix2 (0 : Fin 1) l) = Ideal.div 1 (∑ r : Fin 8, a (ix2 r l)) := by
  pointwise [k0_pay46]
  first | done | rw [one_bits] | rfl

theorem n47 (a : FVec Ideal S8x512 .f32) (p : FVec Ideal S512x512 .f32) (r l : Fin 512) : k0_pay47 a p (ix2 r l) = p (ix2 r l) * k0_pay46 a (ix2 (0 : Fin 1) l) := by
  pointwise [k0_pay47]

theorem n48 (a : FVec Ideal S8x512 .f32) (p : FVec Ideal S512x512 .f32) (r l : Fin 512) : k0_pay48 a p (ix2 r l) = p (ix2 r l) * k0_pay46 a (ix2 (0 : Fin 1) l) := by
  pointwise [k0_pay48]

theorem n49 (a : FVec Ideal S8x512 .f32) (p : FVec Ideal S512x512 .f32) (r l : Fin 512) : k0_pay49 a p (ix2 r l) = p (ix2 r l) * k0_pay46 a (ix2 (0 : Fin 1) l) := by
  pointwise [k0_pay49]

theorem n50 (a : FVec Ideal S8x512 .f32) (p : FVec Ideal S512x512 .f32) (r l : Fin 512) : k0_pay50 a p (ix2 r l) = p (ix2 r l) * k0_pay46 a (ix2 (0 : Fin 1) l) := by
  pointwise [k0_pay50]

theorem n51 (a : FVec Ideal S1x512 .f32) (p : FVec Ideal S512x512 .f32) (r l : Fin 512) : k0_pay51 a p (ix2 r l) = p (ix2 r l) * a (ix2 (0 : Fin 1) l) := by
  pointwise [k0_pay51]

theorem n52 (a : FVec Ideal S1x512 .f32) (p : FVec Ideal S512x512 .f32) (r l : Fin 512) : k0_pay52 a p (ix2 r l) = p (ix2 r l) * a (ix2 (0 : Fin 1) l) := by
  pointwise [k0_pay52]

theorem n53 (a : FVec Ideal S1x512 .f32) (p : FVec Ideal S512x512 .f32) (r l : Fin 512) : k0_pay53 a p (ix2 r l) = p (ix2 r l) * a (ix2 (0 : Fin 1) l) := by
  pointwise [k0_pay53]

theorem n54 (a : FVec Ideal S1x512 .f32) (p : FVec Ideal S512x512 .f32) (r l : Fin 512) : k0_pay54 a p (ix2 r l) = p (ix2 r l) * a (ix2 (0 : Fin 1) l) := by
  pointwise [k0_pay54]

theorem o55 (v : Vec Ideal S1x512x4096 .bf16) (p : Vec Ideal S4096x512 .bf16) (r l : Fin 512) :
    k0_pay55 v p (ix2 r l) = ∑ j : Fin 4096, v (ix3 (0 : Fin 1) r j) * p (ix2 j l) := by
  pointwise [k0_pay55]

theorem t57 (v : Vec Ideal S1x512x4096 .bf16) (p : Vec Ideal S4096x512 .bf16) (l : Fin 512) :
    k0_pay57 (k0_pay56 v p) (ix2 (0 : Fin 1) l) = Soft.tt fun d => k0_pay55 v p (ix2 d l) := by
  pointwise [k0_pay57, k0_pay56]
  first | done | rfl

end Cert.KernelIdeal.Gen

end
-- ==== Proof.Kern.lean ====
module

public import proofs.«01_k».proof.Proof.Gen.KernelIdeal.Value
public import proofs.«01_k».proof.Proof.Pay
public import Idealize.ShloMosaic.Lib.Pointwise

@[expose] public section

set_option maxRecDepth 16384
set_option maxHeartbeats 60000

noncomputable section

open Idealize.ShloMosaic Idealize.ShloMosaic.TcCoe Idealize.SL.Sem

namespace Cert.KernelIdeal.Gen

/-- Rows `a …` of a column of keys read back right after they were stored. -/
theorem hit {e : EltTy} (v : View sig .tc .vmem S4096x512 e) (r : Rect S4096x512) (w : r.shape.Idx → Elt Ideal e)
    (L : List (View.Piece (Elt Ideal) S4096x512 e)) : v.readCov (⟨r, w⟩ :: L) r.toLoadRect = w :=
  View.readCov_cons_toLoadRect v r w L

/-- A store of other rows is not read. -/
theorem skip {e : EltTy} (v : View sig .tc .vmem S4096x512 e) (a b : ℕ) (ia ib) (w)
    (L : List (View.Piece (Elt Ideal) S4096x512 e)) (h : a + 512 ≤ b ∨ b + 512 ≤ a) :
    v.readCov (⟨Rect.unit (s := S4096x512) ![a, 0] S512x512.size ia, w⟩ :: L) (Rect.unit (s := S4096x512) ![b, 0] S512x512.size ib).toLoadRect
      = v.readCov L (Rect.unit (s := S4096x512) ![b, 0] S512x512.size ib).toLoadRect := by
  rw [View.readCov_eq_canon', View.readCov_eq_canon']
  funext j
  refine View.canon_cons_of_not_mem _ _ fun hm => ?_
  have h0 : _ ∈ (Rect.unit (s := S4096x512) ![a, 0] S512x512.size ia).set := hm
  have h1 := Rect.mem_set_unit.mp h0 0
  have h2 : (((Rect.unit (s := S4096x512) ![b, 0] S512x512.size ib).toLoadRect.idx j 0 : Fin _) : ℕ) = b + 1 * (j 0).val := rfl
  have h3 : (j 0).val < 512 := (j 0).isLt
  rw [h2] at h1
  simp only [Matrix.cons_val_zero] at h1
  have h4 : S512x512.size 0 = 512 := rfl
  omega

variable (c : Dev nD) (arg2 : Memref sig .tc .vmem S1x512x512 .bf16) (harg2 : arg2.IsWhole)
  (arg3 : Memref sig .tc .vmem S1x4096x512 .bf16) (harg3 : arg3.IsWhole)
  (arg4 : Memref sig .tc .vmem S1x512x4096 .bf16) (harg4 : arg4.IsWhole)
  (arg13 : Memref sig .tc .vmem S4096x512 .f32) (arg14 : Memref sig .tc .vmem S4096x512 .bf16)
  (x0 : Vec Ideal S1x512x512 .bf16) (x1 : Vec Ideal S1x4096x512 .bf16) (x2 : Vec Ideal S1x512x4096 .bf16)

/-- The score of key `j` against the block's token `l`. -/
def score (x0 : Vec Ideal S1x512x512 .bf16) (x1 : Vec Ideal S1x4096x512 .bf16) (l : Fin 512) (j : Fin 4096) : EReal :=
  ∑ d : Fin 512, x1 (ix3 (0 : Fin 1) j d) * x0 (ix3 (0 : Fin 1) d l)

/-- Key `r` of chunk `a`. -/
def row (a : ℕ) (h : a + 512 ≤ 4096) (r : Fin 512) : Fin 4096 := ⟨a + r.val, by omega⟩

theorem ldQ (d l : Fin 512) : (View.readAt (Elt Ideal) arg2.view (Rect.unit (s := S1x512x512) ![0, 0, 0] S1x512x512.size inb_S1x512x512_S1x512x512_0_0_0).toLoadRect (harg2.unread x0)) (ix3 (0 : Fin 1) d l) = x0 (ix3 (0 : Fin 1) d l) := by
  rw [View.readAt_eq_ld, harg2.read_unread]
  pointwise []

theorem ldV (d : Fin 512) (l : Fin 4096) : (View.readAt (Elt Ideal) arg4.view (Rect.unit (s := S1x512x4096) ![0, 0, 0] S1x512x4096.size inb_S1x512x4096_S1x512x4096_0_0_0).toLoadRect (harg4.unread x2)) (ix3 (0 : Fin 1) d l) = x2 (ix3 (0 : Fin 1) d l) := by
  rw [View.readAt_eq_ld, harg4.read_unread]
  pointwise []

theorem ldK0 (r d : Fin 512) : (View.readAt (Elt Ideal) arg3.view (Rect.unit (s := S1x4096x512) ![0, 0, 0] S1x512x512.size inb_S1x4096x512_S1x512x512_0_0_0).toLoadRect (harg3.unread x1)) (ix3 (0 : Fin 1) r d) = x1 (ix3 (0 : Fin 1) (row 0 (by omega) r) d) := by
  rw [View.readAt_eq_ld, harg3.read_unread]
  pointwise []
  first | rfl | exact congrArg (fun z => x1 (ix3 0 z d)) (Fin.ext (Nat.zero_add _).symm)

theorem ldK1 (r d : Fin 512) : (View.readAt (Elt Ideal) arg3.view (Rect.unit (s := S1x4096x512) ![0, 512, 0] S1x512x512.size inb_S1x4096x512_S1x512x512_0_512_0).toLoadRect (harg3.unread x1)) (ix3 (0 : Fin 1) r d) = x1 (ix3 (0 : Fin 1) (row 512 (by omega) r) d) := by
  rw [View.readAt_eq_ld, harg3.read_unread]
  pointwise []
  first | rfl | exact congrArg (fun z => x1 (ix3 0 z d)) (Fin.ext (Nat.zero_add _).symm)

theorem ldK2 (r d : Fin 512) : (View.readAt (Elt Ideal) arg3.view (Rect.unit (s := S1x4096x512) ![0, 1024, 0] S1x512x512.size inb_S1x4096x512_S1x512x512_0_1024_0).toLoadRect (harg3.unread x1)) (ix3 (0 : Fin 1) r d) = x1 (ix3 (0 : Fin 1) (row 1024 (by omega) r) d) := by
  rw [View.readAt_eq_ld, harg3.read_unread]
  pointwise []
  first | rfl | exact congrArg (fun z => x1 (ix3 0 z d)) (Fin.ext (Nat.zero_add _).symm)

theorem ldK3 (r d : Fin 512) : (View.readAt (Elt Ideal) arg3.view (Rect.unit (s := S1x4096x512) ![0, 1536, 0] S1x512x512.size inb_S1x4096x512_S1x512x512_0_1536_0).toLoadRect (harg3.unread x1)) (ix3 (0 : Fin 1) r d) = x1 (ix3 (0 : Fin 1) (row 1536 (by omega) r) d) := by
  rw [View.readAt_eq_ld, harg3.read_unread]
  pointwise []
  first | rfl | exact congrArg (fun z => x1 (ix3 0 z d)) (Fin.ext (Nat.zero_add _).symm)

theorem ldK4 (r d : Fin 512) : (View.readAt (Elt Ideal) arg3.view (Rect.unit (s := S1x4096x512) ![0, 2048, 0] S1x512x512.size inb_S1x4096x512_S1x512x512_0_2048_0).toLoadRect (harg3.unread x1)) (ix3 (0 : Fin 1) r d) = x1 (ix3 (0 : Fin 1) (row 2048 (by omega) r) d) := by
  rw [View.readAt_eq_ld, harg3.read_unread]
  pointwise []
  first | rfl | exact congrArg (fun z => x1 (ix3 0 z d)) (Fin.ext (Nat.zero_add _).symm)

theorem ldK5 (r d : Fin 512) : (View.readAt (Elt Ideal) arg3.view (Rect.unit (s := S1x4096x512) ![0, 2560, 0] S1x512x512.size inb_S1x4096x512_S1x512x512_0_2560_0).toLoadRect (harg3.unread x1)) (ix3 (0 : Fin 1) r d) = x1 (ix3 (0 : Fin 1) (row 2560 (by omega) r) d) := by
  rw [View.readAt_eq_ld, harg3.read_unread]
  pointwise []
  first | rfl | exact congrArg (fun z => x1 (ix3 0 z d)) (Fin.ext (Nat.zero_add _).symm)

theorem ldK6 (r d : Fin 512) : (View.readAt (Elt Ideal) arg3.view (Rect.unit (s := S1x4096x512) ![0, 3072, 0] S1x512x512.size inb_S1x4096x512_S1x512x512_0_3072_0).toLoadRect (harg3.unread x1)) (ix3 (0 : Fin 1) r d) = x1 (ix3 (0 : Fin 1) (row 3072 (by omega) r) d) := by
  rw [View.readAt_eq_ld, harg3.read_unread]
  pointwise []
  first | rfl | exact congrArg (fun z => x1 (ix3 0 z d)) (Fin.ext (Nat.zero_add _).symm)

theorem ldK7 (r d : Fin 512) : (View.readAt (Elt Ideal) arg3.view (Rect.unit (s := S1x4096x512) ![0, 3584, 0] S1x512x512.size inb_S1x4096x512_S1x512x512_0_3584_0).toLoadRect (harg3.unread x1)) (ix3 (0 : Fin 1) r d) = x1 (ix3 (0 : Fin 1) (row 3584 (by omega) r) d) := by
  rw [View.readAt_eq_ld, harg3.read_unread]
  pointwise []
  first | rfl | exact congrArg (fun z => x1 (ix3 0 z d)) (Fin.ext (Nat.zero_add _).symm)

theorem r_eq (d l : Fin 512) : (kernelRun0_A.sl.r (F := Ideal) c arg2 harg2 x0) (ix2 d l) = x0 (ix3 (0 : Fin 1) d l) := (m5 _ d l).trans (ldQ arg2 harg2 x0 d l)

theorem sc0 (r l : Fin 512) : k0_pay6 (View.readAt (Elt Ideal) arg2.view (Rect.unit (s := S1x512x512) ![0, 0, 0] S1x512x512.size inb_S1x512x512_S1x512x512_0_0_0).toLoadRect (harg2.unread x0)) (View.readAt (Elt Ideal) arg3.view (Rect.unit (s := S1x4096x512) ![0, 0, 0] S1x512x512.size inb_S1x4096x512_S1x512x512_0_0_0).toLoadRect (harg3.unread x1)) (ix2 r l) = score x0 x1 l (row 0 (by omega) r) :=
  (m6 _ _ r l).trans (Finset.sum_congr rfl fun d _ => congrArg₂ (· * ·) (ldK0 arg3 harg3 x1 r d) (ldQ arg2 harg2 x0 d l))

theorem sc1 (r l : Fin 512) : k0_pay8 (View.readAt (Elt Ideal) arg2.view (Rect.unit (s := S1x512x512) ![0, 0, 0] S1x512x512.size inb_S1x512x512_S1x512x512_0_0_0).toLoadRect (harg2.unread x0)) (View.readAt (Elt Ideal) arg3.view (Rect.unit (s := S1x4096x512) ![0, 512, 0] S1x512x512.size inb_S1x4096x512_S1x512x512_0_512_0).toLoadRect (harg3.unread x1)) (ix2 r l) = score x0 x1 l (row 512 (by omega) r) :=
  (m8 _ _ r l).trans (Finset.sum_congr rfl fun d _ => congrArg₂ (· * ·) (ldK1 arg3 harg3 x1 r d) (ldQ arg2 harg2 x0 d l))

theorem sc2 (r l : Fin 512) : k0_pay10 (View.readAt (Elt Ideal) arg2.view (Rect.unit (s := S1x512x512) ![0, 0, 0] S1x512x512.size inb_S1x512x512_S1x512x512_0_0_0).toLoadRect (harg2.unread x0)) (View.readAt (Elt Ideal) arg3.view (Rect.unit (s := S1x4096x512) ![0, 1024, 0] S1x512x512.size inb_S1x4096x512_S1x512x512_0_1024_0).toLoadRect (harg3.unread x1)) (ix2 r l) = score x0 x1 l (row 1024 (by omega) r) :=
  (m10 _ _ r l).trans (Finset.sum_congr rfl fun d _ => congrArg₂ (· * ·) (ldK2 arg3 harg3 x1 r d) (ldQ arg2 harg2 x0 d l))

theorem sc3 (r l : Fin 512) : k0_pay13 (kernelRun0_A.sl.r (F := Ideal) c arg2 harg2 x0) (View.readAt (Elt Ideal) arg3.view (Rect.unit (s := S1x4096x512) ![0, 1536, 0] S1x512x512.size inb_S1x4096x512_S1x512x512_0_1536_0).toLoadRect (harg3.unread x1)) (ix2 r l) = score x0 x1 l (row 1536 (by omega) r) :=
  (m13 _ _ r l).trans (Finset.sum_congr rfl fun d _ => congrArg₂ (· * ·) (ldK3 arg3 harg3 x1 r d) (r_eq c arg2 harg2 x0 d l))

theorem sc4 (r l : Fin 512) : k0_pay15 (kernelRun0_A.sl.r (F := Ideal) c arg2 harg2 x0) (View.readAt (Elt Ideal) arg3.view (Rect.unit (s := S1x4096x512) ![0, 2048, 0] S1x512x512.size inb_S1x4096x512_S1x512x512_0_2048_0).toLoadRect (harg3.unread x1)) (ix2 r l) = score x0 x1 l (row 2048 (by omega) r) :=
  (m15 _ _ r l).trans (Finset.sum_congr rfl fun d _ => congrArg₂ (· * ·) (ldK4 arg3 harg3 x1 r d) (r_eq c arg2 harg2 x0 d l))

theorem sc5 (r l : Fin 512) : k0_pay17 (kernelRun0_A.sl.r (F := Ideal) c arg2 harg2 x0) (View.readAt (Elt Ideal) arg3.view (Rect.unit (s := S1x4096x512) ![0, 2560, 0] S1x512x512.size inb_S1x4096x512_S1x512x512_0_2560_0).toLoadRect (harg3.unread x1)) (ix2 r l) = score x0 x1 l (row 2560 (by omega) r) :=
  (m17 _ _ r l).trans (Finset.sum_congr rfl fun d _ => congrArg₂ (· * ·) (ldK5 arg3 harg3 x1 r d) (r_eq c arg2 harg2 x0 d l))

theorem sc6 (r l : Fin 512) : k0_pay20 (kernelRun0_A.sl.r (F := Ideal) c arg2 harg2 x0) (View.readAt (Elt Ideal) arg3.view (Rect.unit (s := S1x4096x512) ![0, 3072, 0] S1x512x512.size inb_S1x4096x512_S1x512x512_0_3072_0).toLoadRect (harg3.unread x1)) (ix2 r l) = score x0 x1 l (row 3072 (by omega) r) :=
  (m20 _ _ r l).trans (Finset.sum_congr rfl fun d _ => congrArg₂ (· * ·) (ldK6 arg3 harg3 x1 r d) (r_eq c arg2 harg2 x0 d l))

theorem sc7 (r l : Fin 512) : k0_pay22 (kernelRun0_A.sl.r (F := Ideal) c arg2 harg2 x0) (View.readAt (Elt Ideal) arg3.view (Rect.unit (s := S1x4096x512) ![0, 3584, 0] S1x512x512.size inb_S1x4096x512_S1x512x512_0_3584_0).toLoadRect (harg3.unread x1)) (ix2 r l) = score x0 x1 l (row 3584 (by omega) r) :=
  (m22 _ _ r l).trans (Finset.sum_congr rfl fun d _ => congrArg₂ (· * ·) (ldK7 arg3 harg3 x1 r d) (r_eq c arg2 harg2 x0 d l))

theorem r_3_eq (r l : Fin 512) : (kernelRun0_A.sl.r_3 (F := Ideal) c arg2 harg2 arg3 harg3 x0 x1) (ix2 r l) = score x0 x1 l (row 3072 (by omega) r) := sc6 c arg2 harg2 arg3 harg3 x0 x1 r l

theorem r_4_eq (l : Fin 512) : (kernelRun0_A.sl.r_4 (F := Ideal) c arg2 harg2 arg3 harg3 x0 x1) (ix2 (0 : Fin 1) l) = Soft.mx (score x0 x1 l) * (Soft.cb : EReal) := by
  refine (x24 _ _ _ _ l).trans (congrArg (· * (Soft.cb : EReal)) ((congrArg Soft.mx (funext fun r => ?_)).trans (Soft.mx_blocks (score x0 x1 l))))
  exact congrArg₂ max (congrArg₂ max ((x19 _ _ _ _ _ r l).trans (congrArg₂ max (congrArg₂ max (congrArg₂ max
    ((x12 _ _ _ _ r l).trans (congrArg₂ max (congrArg₂ max (congrArg (max ⊥) (congrArg Soft.mx (funext fun x => sc0 arg2 harg2 arg3 harg3 x0 x1 (at8 x r) l))) (congrArg Soft.mx (funext fun x => sc1 arg2 harg2 arg3 harg3 x0 x1 (at8 x r) l))) (congrArg Soft.mx (funext fun x => sc2 arg2 harg2 arg3 harg3 x0 x1 (at8 x r) l))))
    (congrArg Soft.mx (funext fun x => sc3 c arg2 harg2 arg3 harg3 x0 x1 (at8 x r) l))) (congrArg Soft.mx (funext fun x => sc4 c arg2 harg2 arg3 harg3 x0 x1 (at8 x r) l))) (congrArg Soft.mx (funext fun x => sc5 c arg2 harg2 arg3 harg3 x0 x1 (at8 x r) l)))) (congrArg Soft.mx (funext fun x => sc6 c arg2 harg2 arg3 harg3 x0 x1 (at8 x r) l))) (congrArg Soft.mx (funext fun x => sc7 c arg2 harg2 arg3 harg3 x0 x1 (at8 x r) l))

end Cert.KernelIdeal.Gen

end
-- ==== Proof.KernS.lean ====
module

public import proofs.«01_k».proof.Proof.Gen.KernelIdeal.Value
public import proofs.«01_k».proof.Proof.Kern
public import Idealize.ShloMosaic.Lib.Pointwise

@[expose] public section

set_option maxRecDepth 16384
set_option maxHeartbeats 60000

noncomputable section

open Idealize.ShloMosaic Idealize.ShloMosaic.TcCoe Idealize.SL.Sem

namespace Cert.KernelIdeal.Gen

variable (c : Dev nD) (arg2 : Memref sig .tc .vmem S1x512x512 .bf16) (harg2 : arg2.IsWhole)
  (arg3 : Memref sig .tc .vmem S1x4096x512 .bf16) (harg3 : arg3.IsWhole)
  (arg4 : Memref sig .tc .vmem S1x512x4096 .bf16) (harg4 : arg4.IsWhole)
  (arg13 : Memref sig .tc .vmem S4096x512 .f32) (arg14 : Memref sig .tc .vmem S4096x512 .bf16)
  (x0 : Vec Ideal S1x512x512 .bf16) (x1 : Vec Ideal S1x4096x512 .bf16) (x2 : Vec Ideal S1x512x4096 .bf16)

theorem v80_eq (r l : Fin 512) : (kernelRun0_A.sl.v80 (F := Ideal) c arg2 harg2 arg3 harg3 arg13 x0 x1) (ix2 r l) = score x0 x1 l (row 0 (by omega) r) := by
  refine (congrFun ((skip _ 3584 0 _ _ _ _ (by omega)).trans ((skip _ 3072 0 _ _ _ _ (by omega)).trans ((skip _ 2560 0 _ _ _ _ (by omega)).trans ((skip _ 2048 0 _ _ _ _ (by omega)).trans ((skip _ 1536 0 _ _ _ _ (by omega)).trans ((skip _ 1024 0 _ _ _ _ (by omega)).trans ((skip _ 512 0 _ _ _ _ (by omega)).trans (hit _ _ _ _)))))))) (ix2 r l)).trans ((c7 _ _ r l).trans (sc0 arg2 harg2 arg3 harg3 x0 x1 r l))

theorem v92_eq (r l : Fin 512) : (kernelRun0_A.sl.v92 (F := Ideal) c arg2 harg2 arg3 harg3 arg13 x0 x1) (ix2 r l) = score x0 x1 l (row 512 (by omega) r) := by
  refine (congrFun ((skip _ 0 512 _ _ _ _ (by omega)).trans ((skip _ 3584 512 _ _ _ _ (by omega)).trans ((skip _ 3072 512 _ _ _ _ (by omega)).trans ((skip _ 2560 512 _ _ _ _ (by omega)).trans ((skip _ 2048 512 _ _ _ _ (by omega)).trans ((skip _ 1536 512 _ _ _ _ (by omega)).trans ((skip _ 1024 512 _ _ _ _ (by omega)).trans (hit _ _ _ _)))))))) (ix2 r l)).trans ((c9 _ _ r l).trans (sc1 arg2 harg2 arg3 harg3 x0 x1 r l))

theorem v104_eq (r l : Fin 512) : (kernelRun0_A.sl.v104 (F := Ideal) c arg2 harg2 arg3 harg3 arg13 x0 x1) (ix2 r l) = score x0 x1 l (row 1024 (by omega) r) := by
  refine (congrFun ((skip _ 512 1024 _ _ _ _ (by omega)).trans ((skip _ 0 1024 _ _ _ _ (by omega)).trans ((skip _ 3584 1024 _ _ _ _ (by omega)).trans ((skip _ 3072 1024 _ _ _ _ (by omega)).trans ((skip _ 2560 1024 _ _ _ _ (by omega)).trans ((skip _ 2048 1024 _ _ _ _ (by omega)).trans ((skip _ 1536 1024 _ _ _ _ (by omega)).trans (hit _ _ _ _)))))))) (ix2 r l)).trans ((c11 _ _ r l).trans (sc2 arg2 harg2 arg3 harg3 x0 x1 r l))

theorem v116_eq (r l : Fin 512) : (kernelRun0_A.sl.v116 (F := Ideal) c arg2 harg2 arg3 harg3 arg13 x0 x1) (ix2 r l) = score x0 x1 l (row 1536 (by omega) r) := by
  refine (congrFun ((skip _ 1024 1536 _ _ _ _ (by omega)).trans ((skip _ 512 1536 _ _ _ _ (by omega)).trans ((skip _ 0 1536 _ _ _ _ (by omega)).trans ((skip _ 3584 1536 _ _ _ _ (by omega)).trans ((skip _ 3072 1536 _ _ _ _ (by omega)).trans ((skip _ 2560 1536 _ _ _ _ (by omega)).trans ((skip _ 2048 1536 _ _ _ _ (by omega)).trans (hit _ _ _ _)))))))) (ix2 r l)).trans ((c14 _ _ r l).trans (sc3 c arg2 harg2 arg3 harg3 x0 x1 r l))

theorem v128_eq (r l : Fin 512) : (kernelRun0_A.sl.v128 (F := Ideal) c arg2 harg2 arg3 harg3 arg13 x0 x1) (ix2 r l) = score x0 x1 l (row 2048 (by omega) r) := by
  refine (congrFun ((skip _ 1536 2048 _ _ _ _ (by omega)).trans ((skip _ 1024 2048 _ _ _ _ (by omega)).trans ((skip _ 512 2048 _ _ _ _ (by omega)).trans ((skip _ 0 2048 _ _ _ _ (by omega)).trans ((skip _ 3584 2048 _ _ _ _ (by omega)).trans ((skip _ 3072 2048 _ _ _ _ (by omega)).trans ((skip _ 2560 2048 _ _ _ _ (by omega)).trans (hit _ _ _ _)))))))) (ix2 r l)).trans ((c16 _ _ r l).trans (sc4 c arg2 harg2 arg3 harg3 x0 x1 r l))

theorem v140_eq (r l : Fin 512) : (kernelRun0_A.sl.v140 (F := Ideal) c arg2 harg2 arg3 harg3 arg13 x0 x1) (ix2 r l) = score x0 x1 l (row 2560 (by omega) r) := by
  refine (congrFun ((skip _ 2048 2560 _ _ _ _ (by omega)).trans ((skip _ 1536 2560 _ _ _ _ (by omega)).trans ((skip _ 1024 2560 _ _ _ _ (by omega)).trans ((skip _ 512 2560 _ _ _ _ (by omega)).trans ((skip _ 0 2560 _ _ _ _ (by omega)).trans ((skip _ 3584 2560 _ _ _ _ (by omega)).trans ((skip _ 3072 2560 _ _ _ _ (by omega)).trans (hit _ _ _ _)))))))) (ix2 r l)).trans ((c18 _ _ r l).trans (sc5 c arg2 harg2 arg3 harg3 x0 x1 r l))

theorem v152_eq (r l : Fin 512) : (kernelRun0_A.sl.v152 (F := Ideal) c arg2 harg2 arg3 harg3 arg13 x0 x1) (ix2 r l) = score x0 x1 l (row 3072 (by omega) r) := by
  refine (congrFun ((skip _ 2560 3072 _ _ _ _ (by omega)).trans ((skip _ 2048 3072 _ _ _ _ (by omega)).trans ((skip _ 1536 3072 _ _ _ _ (by omega)).trans ((skip _ 1024 3072 _ _ _ _ (by omega)).trans ((skip _ 512 3072 _ _ _ _ (by omega)).trans ((skip _ 0 3072 _ _ _ _ (by omega)).trans ((skip _ 3584 3072 _ _ _ _ (by omega)).trans (hit _ _ _ _)))))))) (ix2 r l)).trans ((c21 _ r l).trans (r_3_eq c arg2 harg2 arg3 harg3 x0 x1 r l))

theorem v164_eq (r l : Fin 512) : (kernelRun0_A.sl.v164 (F := Ideal) c arg2 harg2 arg3 harg3 arg13 x0 x1) (ix2 r l) = score x0 x1 l (row 3584 (by omega) r) := by
  refine (congrFun ((skip _ 3072 3584 _ _ _ _ (by omega)).trans ((skip _ 2560 3584 _ _ _ _ (by omega)).trans ((skip _ 2048 3584 _ _ _ _ (by omega)).trans ((skip _ 1536 3584 _ _ _ _ (by omega)).trans ((skip _ 1024 3584 _ _ _ _ (by omega)).trans ((skip _ 512 3584 _ _ _ _ (by omega)).trans ((skip _ 0 3584 _ _ _ _ (by omega)).trans (hit _ _ _ _)))))))) (ix2 r l)).trans ((c23 _ _ r l).trans (sc7 c arg2 harg2 arg3 harg3 x0 x1 r l))

end Cert.KernelIdeal.Gen

end
-- ==== Proof.KernP.lean ====
module

public import proofs.«01_k».proof.Proof.Gen.KernelIdeal.Value
public import proofs.«01_k».proof.Proof.KernS
public import Idealize.ShloMosaic.Lib.Pointwise

@[expose] public section

set_option maxRecDepth 16384
set_option maxHeartbeats 60000

noncomputable section

open Idealize.ShloMosaic Idealize.ShloMosaic.TcCoe Idealize.SL.Sem

namespace Cert.KernelIdeal.Gen

variable (c : Dev nD) (arg2 : Memref sig .tc .vmem S1x512x512 .bf16) (harg2 : arg2.IsWhole)
  (arg3 : Memref sig .tc .vmem S1x4096x512 .bf16) (harg3 : arg3.IsWhole)
  (arg4 : Memref sig .tc .vmem S1x512x4096 .bf16) (harg4 : arg4.IsWhole)
  (arg13 : Memref sig .tc .vmem S4096x512 .f32) (arg14 : Memref sig .tc .vmem S4096x512 .bf16)
  (x0 : Vec Ideal S1x512x512 .bf16) (x1 : Vec Ideal S1x4096x512 .bf16) (x2 : Vec Ideal S1x512x4096 .bf16)

theorem p0 (r l : Fin 512) : k0_pay25 (kernelRun0_A.sl.r (F := Ideal) c arg2 harg2 x0) (kernelRun0_A.sl.r_2 (F := Ideal) c arg2 harg2 arg3 harg3 x0 x1) (kernelRun0_A.sl.r_3 (F := Ideal) c arg2 harg2 arg3 harg3 x0 x1) (View.readAt (Elt Ideal) arg3.view (Rect.unit (s := S1x4096x512) ![0, 3584, 0] S1x512x512.size inb_S1x4096x512_S1x512x512_0_3584_0).toLoadRect (harg3.unread x1)) (kernelRun0_A.sl.v80 (F := Ideal) c arg2 harg2 arg3 harg3 arg13 x0 x1) (ix2 r l) = Soft.num (score x0 x1 l) (row 0 (by omega) r) := by
  refine (e25 _ _ _ _ _ r l).trans ?_
  rw [v80_eq]
  refine Eq.trans ?_ (Soft.num_eq (score x0 x1 l) _)
  exact congrArg (fun z : EReal => Ideal.exp2 (score x0 x1 l (row 0 (by omega) r) * (Soft.cb : EReal) - z)) (r_4_eq c arg2 harg2 arg3 harg3 x0 x1 l)

theorem p1 (r l : Fin 512) : k0_pay29 (kernelRun0_A.sl.r_6 (F := Ideal) c arg2 harg2 arg3 harg3 arg13 x0 x1) (ix2 r l) = Soft.num (score x0 x1 l) (row 512 (by omega) r) := by
  refine (e29 _ r l).trans ((congrArg Ideal.exp2 (e28 _ _ _ _ _ r l)).trans ?_)
  rw [v92_eq]
  refine Eq.trans ?_ (Soft.num_eq (score x0 x1 l) _)
  exact congrArg (fun z : EReal => Ideal.exp2 (score x0 x1 l (row 512 (by omega) r) * (Soft.cb : EReal) - z)) (r_4_eq c arg2 harg2 arg3 harg3 x0 x1 l)

theorem p2 (r l : Fin 512) : k0_pay31 (kernelRun0_A.sl.r_4 (F := Ideal) c arg2 harg2 arg3 harg3 x0 x1) (kernelRun0_A.sl.v104 (F := Ideal) c arg2 harg2 arg3 harg3 arg13 x0 x1) (ix2 r l) = Soft.num (score x0 x1 l) (row 1024 (by omega) r) := by
  refine (e31 _ _ r l).trans ?_
  rw [v104_eq]
  refine Eq.trans ?_ (Soft.num_eq (score x0 x1 l) _)
  exact congrArg (fun z : EReal => Ideal.exp2 (score x0 x1 l (row 1024 (by omega) r) * (Soft.cb : EReal) - z)) (r_4_eq c arg2 harg2 arg3 harg3 x0 x1 l)

theorem p3 (r l : Fin 512) : k0_pay33 (kernelRun0_A.sl.r_4 (F := Ideal) c arg2 harg2 arg3 harg3 x0 x1) (kernelRun0_A.sl.v116 (F := Ideal) c arg2 harg2 arg3 harg3 arg13 x0 x1) (ix2 r l) = Soft.num (score x0 x1 l) (row 1536 (by omega) r) := by
  refine (e33 _ _ r l).trans ?_
  rw [v116_eq]
  refine Eq.trans ?_ (Soft.num_eq (score x0 x1 l) _)
  exact congrArg (fun z : EReal => Ideal.exp2 (score x0 x1 l (row 1536 (by omega) r) * (Soft.cb : EReal) - z)) (r_4_eq c arg2 harg2 arg3 harg3 x0 x1 l)

theorem p4 (r l : Fin 512) : k0_pay36 (kernelRun0_A.sl.r_4 (F := Ideal) c arg2 harg2 arg3 harg3 x0 x1) (kernelRun0_A.sl.v128 (F := Ideal) c arg2 harg2 arg3 harg3 arg13 x0 x1) (ix2 r l) = Soft.num (score x0 x1 l) (row 2048 (by omega) r) := by
  refine (e36 _ _ r l).trans ?_
  rw [v128_eq]
  refine Eq.trans ?_ (Soft.num_eq (score x0 x1 l) _)
  exact congrArg (fun z : EReal => Ideal.exp2 (score x0 x1 l (row 2048 (by omega) r) * (Soft.cb : EReal) - z)) (r_4_eq c arg2 harg2 arg3 harg3 x0 x1 l)

theorem p5 (r l : Fin 512) : k0_pay39 (kernelRun0_A.sl.r_4 (F := Ideal) c arg2 harg2 arg3 harg3 x0 x1) (kernelRun0_A.sl.v140 (F := Ideal) c arg2 harg2 arg3 harg3 arg13 x0 x1) (ix2 r l) = Soft.num (score x0 x1 l) (row 2560 (by omega) r) := by
  refine (e39 _ _ r l).trans ?_
  rw [v140_eq]
  refine Eq.trans ?_ (Soft.num_eq (score x0 x1 l) _)
  exact congrArg (fun z : EReal => Ideal.exp2 (score x0 x1 l (row 2560 (by omega) r) * (Soft.cb : EReal) - z)) (r_4_eq c arg2 harg2 arg3 harg3 x0 x1 l)

theorem p6 (r l : Fin 512) : k0_pay41 (kernelRun0_A.sl.r_4 (F := Ideal) c arg2 harg2 arg3 harg3 x0 x1) (kernelRun0_A.sl.v152 (F := Ideal) c arg2 harg2 arg3 harg3 arg13 x0 x1) (ix2 r l) = Soft.num (score x0 x1 l) (row 3072 (by omega) r) := by
  refine (e41 _ _ r l).trans ?_
  rw [v152_eq]
  refine Eq.trans ?_ (Soft.num_eq (score x0 x1 l) _)
  exact congrArg (fun z : EReal => Ideal.exp2 (score x0 x1 l (row 3072 (by omega) r) * (Soft.cb : EReal) - z)) (r_4_eq c arg2 harg2 arg3 harg3 x0 x1 l)

theorem p7 (r l : Fin 512) : k0_pay43 (kernelRun0_A.sl.r_4 (F := Ideal) c arg2 harg2 arg3 harg3 x0 x1) (kernelRun0_A.sl.v164 (F := Ideal) c arg2 harg2 arg3 harg3 arg13 x0 x1) (ix2 r l) = Soft.num (score x0 x1 l) (row 3584 (by omega) r) := by
  refine (e43 _ _ r l).trans ?_
  rw [v164_eq]
  refine Eq.trans ?_ (Soft.num_eq (score x0 x1 l) _)
  exact congrArg (fun z : EReal => Ideal.exp2 (score x0 x1 l (row 3584 (by omega) r) * (Soft.cb : EReal) - z)) (r_4_eq c arg2 harg2 arg3 harg3 x0 x1 l)

theorem L_eq (l : Fin 512) : k0_pay46 (kernelRun0_A.sl.r_11 (F := Ideal) c arg2 harg2 arg3 harg3 arg13 x0 x1) (ix2 (0 : Fin 1) l) = Ideal.div 1 (∑ k, Soft.num (score x0 x1 l) k) := by
  refine (d46 _ l).trans (congrArg (Ideal.div 1) ((Finset.sum_congr rfl fun r _ => ?_).trans (Soft.sum_blocks (Soft.num (score x0 x1 l)))))
  exact (a44 _ _ _ _ _ _ r l).trans (congrArg₂ (· + ·) (congrArg₂ (· + ·) (congrArg₂ (· + ·) (congrArg₂ (· + ·)
    ((a34 _ _ _ _ _ r l).trans (congrArg₂ (· + ·) (congrArg₂ (· + ·) (congrArg₂ (· + ·) ((a26 _ _ _ _ _ r l).trans (Finset.sum_congr rfl fun x _ => p0 c arg2 harg2 arg3 harg3 arg13 x0 x1 (at8 x r) l)) (Finset.sum_congr rfl fun x _ => p1 c arg2 harg2 arg3 harg3 arg13 x0 x1 (at8 x r) l)) (Finset.sum_congr rfl fun x _ => p2 c arg2 harg2 arg3 harg3 arg13 x0 x1 (at8 x r) l)) (Finset.sum_congr rfl fun x _ => p3 c arg2 harg2 arg3 harg3 arg13 x0 x1 (at8 x r) l)))
    (Finset.sum_congr rfl fun x _ => p4 c arg2 harg2 arg3 harg3 arg13 x0 x1 (at8 x r) l)) (Finset.sum_congr rfl fun x _ => p5 c arg2 harg2 arg3 harg3 arg13 x0 x1 (at8 x r) l)) (Finset.sum_congr rfl fun x _ => p6 c arg2 harg2 arg3 harg3 arg13 x0 x1 (at8 x r) l)) (Finset.sum_congr rfl fun x _ => p7 c arg2 harg2 arg3 harg3 arg13 x0 x1 (at8 x r) l))

theorem v180_eq (r l : Fin 512) : (kernelRun0_A.sl.v180 (F := Ideal) c arg2 harg2 arg3 harg3 arg13 x0 x1) (ix2 r l) = Soft.num (score x0 x1 l) (row 0 (by omega) r) := by
  exact (congrFun ((skip _ 3584 0 _ _ _ _ (by omega)).trans ((skip _ 3072 0 _ _ _ _ (by omega)).trans ((skip _ 2560 0 _ _ _ _ (by omega)).trans ((skip _ 2048 0 _ _ _ _ (by omega)).trans ((skip _ 1536 0 _ _ _ _ (by omega)).trans ((skip _ 1024 0 _ _ _ _ (by omega)).trans ((skip _ 512 0 _ _ _ _ (by omega)).trans (hit _ _ _ _)))))))) (ix2 r l)).trans ((c27 _ _ _ _ _ r l).trans (p0 c arg2 harg2 arg3 harg3 arg13 x0 x1 r l))

theorem v187_eq (r l : Fin 512) : (kernelRun0_A.sl.v187 (F := Ideal) c arg2 harg2 arg3 harg3 arg13 x0 x1) (ix2 r l) = Soft.num (score x0 x1 l) (row 512 (by omega) r) := by
  exact (congrFun ((skip _ 3584 512 _ _ _ _ (by omega)).trans ((skip _ 3072 512 _ _ _ _ (by omega)).trans ((skip _ 2560 512 _ _ _ _ (by omega)).trans ((skip _ 2048 512 _ _ _ _ (by omega)).trans ((skip _ 1536 512 _ _ _ _ (by omega)).trans ((skip _ 1024 512 _ _ _ _ (by omega)).trans (hit _ _ _ _))))))) (ix2 r l)).trans ((c30 _ r l).trans (p1 c arg2 harg2 arg3 harg3 arg13 x0 x1 r l))

theorem v194_eq (r l : Fin 512) : (kernelRun0_A.sl.v194 (F := Ideal) c arg2 harg2 arg3 harg3 arg13 x0 x1) (ix2 r l) = Soft.num (score x0 x1 l) (row 1024 (by omega) r) := by
  exact (congrFun ((skip _ 3584 1024 _ _ _ _ (by omega)).trans ((skip _ 3072 1024 _ _ _ _ (by omega)).trans ((skip _ 2560 1024 _ _ _ _ (by omega)).trans ((skip _ 2048 1024 _ _ _ _ (by omega)).trans ((skip _ 1536 1024 _ _ _ _ (by omega)).trans (hit _ _ _ _)))))) (ix2 r l)).trans ((c32 _ _ r l).trans (p2 c arg2 harg2 arg3 harg3 arg13 x0 x1 r l))

theorem v201_eq (r l : Fin 512) : (kernelRun0_A.sl.v201 (F := Ideal) c arg2 harg2 arg3 harg3 arg13 x0 x1) (ix2 r l) = Soft.num (score x0 x1 l) (row 1536 (by omega) r) := by
  exact (congrFun ((skip _ 3584 1536 _ _ _ _ (by omega)).trans ((skip _ 3072 1536 _ _ _ _ (by omega)).trans ((skip _ 2560 1536 _ _ _ _ (by omega)).trans ((skip _ 2048 1536 _ _ _ _ (by omega)).trans (hit _ _ _ _))))) (ix2 r l)).trans ((c35 _ _ r l).trans (p3 c arg2 harg2 arg3 harg3 arg13 x0 x1 r l))

theorem v208_eq (r l : Fin 512) : (kernelRun0_A.sl.v208 (F := Ideal) c arg2 harg2 arg3 harg3 arg13 x0 x1) (ix2 r l) = Soft.num (score x0 x1 l) (row 2048 (by omega) r) := by
  exact (congrFun ((skip _ 3584 2048 _ _ _ _ (by omega)).trans ((skip _ 3072 2048 _ _ _ _ (by omega)).trans ((skip _ 2560 2048 _ _ _ _ (by omega)).trans (hit _ _ _ _)))) (ix2 r l)).trans ((c38 _ r l).trans (p4 c arg2 harg2 arg3 harg3 arg13 x0 x1 r l))

theorem v215_eq (r l : Fin 512) : (kernelRun0_A.sl.v215 (F := Ideal) c arg2 harg2 arg3 harg3 arg13 x0 x1) (ix2 r l) = Soft.num (score x0 x1 l) (row 2560 (by omega) r) := by
  exact (congrFun ((skip _ 3584 2560 _ _ _ _ (by omega)).trans ((skip _ 3072 2560 _ _ _ _ (by omega)).trans (hit _ _ _ _))) (ix2 r l)).trans ((c40 _ _ r l).trans (p5 c arg2 harg2 arg3 harg3 arg13 x0 x1 r l))

theorem v222_eq (r l : Fin 512) : (kernelRun0_A.sl.v222 (F := Ideal) c arg2 harg2 arg3 harg3 arg13 x0 x1) (ix2 r l) = Soft.num (score x0 x1 l) (row 3072 (by omega) r) := by
  exact (congrFun ((skip _ 3584 3072 _ _ _ _ (by omega)).trans (hit _ _ _ _)) (ix2 r l)).trans ((c42 _ _ r l).trans (p6 c arg2 harg2 arg3 harg3 arg13 x0 x1 r l))

theorem v229_eq (r l : Fin 512) : (kernelRun0_A.sl.v229 (F := Ideal) c arg2 harg2 arg3 harg3 arg13 x0 x1) (ix2 r l) = Soft.num (score x0 x1 l) (row 3584 (by omega) r) := by
  have h : kernelRun0_A.sl.v229 (F := Ideal) c arg2 harg2 arg3 harg3 arg13 x0 x1 = k0_pay45 (kernelRun0_A.sl.r_10 (F := Ideal) c arg2 harg2 arg3 harg3 arg13 x0 x1) := by
    unfold kernelRun0_A.sl.v229 kernelRun0_A.sl.HS0_16
    exact hit _ _ _ _
  have h2 : kernelRun0_A.sl.r_10 (F := Ideal) c arg2 harg2 arg3 harg3 arg13 x0 x1 (ix2 r l) = _ := p7 c arg2 harg2 arg3 harg3 arg13 x0 x1 r l
  exact (congrFun h (ix2 r l)).trans ((c45 _ r l).trans h2)

end Cert.KernelIdeal.Gen

end
-- ==== Proof.KernO.lean ====
module

public import proofs.«01_k».proof.Proof.Gen.KernelIdeal.Value
public import proofs.«01_k».proof.Proof.KernP
public import Idealize.ShloMosaic.Lib.Pointwise

@[expose] public section

set_option maxRecDepth 16384
set_option maxHeartbeats 60000

noncomputable section

open Idealize.ShloMosaic Idealize.ShloMosaic.TcCoe Idealize.SL.Sem

namespace Cert.KernelIdeal.Gen

variable (c : Dev nD) (arg2 : Memref sig .tc .vmem S1x512x512 .bf16) (harg2 : arg2.IsWhole)
  (arg3 : Memref sig .tc .vmem S1x4096x512 .bf16) (harg3 : arg3.IsWhole)
  (arg4 : Memref sig .tc .vmem S1x512x4096 .bf16) (harg4 : arg4.IsWhole)
  (arg13 : Memref sig .tc .vmem S4096x512 .f32) (arg14 : Memref sig .tc .vmem S4096x512 .bf16)
  (x0 : Vec Ideal S1x512x512 .bf16) (x1 : Vec Ideal S1x4096x512 .bf16) (x2 : Vec Ideal S1x512x4096 .bf16)

theorem hit1 {e : EltTy} (a : ℕ) (ha : a + 512 ≤ 4096) (ia) (w) (L : List (View.Piece (Elt Ideal) S4096x512 e)) (r l : Fin 512) :
    View.canon (⟨Rect.unit (s := S4096x512) ![a, 0] S512x512.size ia, w⟩ :: L) (ix2 (row a ha r) l) = w (ix2 r l) := by
  refine Eq.trans (congrArg _ ?_) (View.canon_cons_emb (Rect.unit (s := S4096x512) ![a, 0] S512x512.size ia) w L (ix2 r l))
  funext i
  refine Fin.ext ?_
  fin_cases i
  · show a + r.val = a + 1 * r.val
    omega
  · show l.val = 0 + 1 * l.val
    omega

theorem skip1 {e : EltTy} (a b : ℕ) (hb : b + 512 ≤ 4096) (ia) (w) (L : List (View.Piece (Elt Ideal) S4096x512 e)) (r l : Fin 512)
    (h : a + 512 ≤ b ∨ b + 512 ≤ a) :
    View.canon (⟨Rect.unit (s := S4096x512) ![a, 0] S512x512.size ia, w⟩ :: L) (ix2 (row b hb r) l) = View.canon L (ix2 (row b hb r) l) := by
  refine View.canon_cons_of_not_mem _ _ fun hm => ?_
  have h0 : _ ∈ (Rect.unit (s := S4096x512) ![a, 0] S512x512.size ia).set := hm
  have h1 := Rect.mem_set_unit.mp h0 0
  have h2 : ((ix2 (row b hb r) l : S4096x512.Idx) 0 : ℕ) = b + r.val := rfl
  have h3 := r.isLt
  rw [h2] at h1
  simp only [Matrix.cons_val_zero] at h1
  have h4 : S512x512.size 0 = 512 := rfl
  omega

theorem q0 (r l : Fin 512) : View.canon (kernelRun0_A.sl.HS1_8 (F := Ideal) c arg2 harg2 arg3 harg3 arg13 x0 x1) (ix2 (row 0 (by omega) r) l) = Soft.wt (score x0 x1 l) (row 0 (by omega) r) := by
  exact ((skip1 3584 0 (by omega) _ _ _ r l (by omega)).trans ((skip1 3072 0 (by omega) _ _ _ r l (by omega)).trans ((skip1 2560 0 (by omega) _ _ _ r l (by omega)).trans ((skip1 2048 0 (by omega) _ _ _ r l (by omega)).trans ((skip1 1536 0 (by omega) _ _ _ r l (by omega)).trans ((skip1 1024 0 (by omega) _ _ _ r l (by omega)).trans ((skip1 512 0 (by omega) _ _ _ r l (by omega)).trans (hit1 0 (by omega) _ _ _ r l)))))))).trans ((n47 _ _ r l).trans (congrArg₂ (· * ·) (v180_eq c arg2 harg2 arg3 harg3 arg13 x0 x1 r l) (L_eq c arg2 harg2 arg3 harg3 arg13 x0 x1 l)))

theorem q1 (r l : Fin 512) : View.canon (kernelRun0_A.sl.HS1_8 (F := Ideal) c arg2 harg2 arg3 harg3 arg13 x0 x1) (ix2 (row 512 (by omega) r) l) = Soft.wt (score x0 x1 l) (row 512 (by omega) r) := by
  exact ((skip1 3584 512 (by omega) _ _ _ r l (by omega)).trans ((skip1 3072 512 (by omega) _ _ _ r l (by omega)).trans ((skip1 2560 512 (by omega) _ _ _ r l (by omega)).trans ((skip1 2048 512 (by omega) _ _ _ r l (by omega)).trans ((skip1 1536 512 (by omega) _ _ _ r l (by omega)).trans ((skip1 1024 512 (by omega) _ _ _ r l (by omega)).trans (hit1 512 (by omega) _ _ _ r l))))))).trans ((n48 _ _ r l).trans (congrArg₂ (· * ·) (v187_eq c arg2 harg2 arg3 harg3 arg13 x0 x1 r l) (L_eq c arg2 harg2 arg3 harg3 arg13 x0 x1 l)))

theorem q2 (r l : Fin 512) : View.canon (kernelRun0_A.sl.HS1_8 (F := Ideal) c arg2 harg2 arg3 harg3 arg13 x0 x1) (ix2 (row 1024 (by omega) r) l) = Soft.wt (score x0 x1 l) (row 1024 (by omega) r) := by
  exact ((skip1 3584 1024 (by omega) _ _ _ r l (by omega)).trans ((skip1 3072 1024 (by omega) _ _ _ r l (by omega)).trans ((skip1 2560 1024 (by omega) _ _ _ r l (by omega)).trans ((skip1 2048 1024 (by omega) _ _ _ r l (by omega)).trans ((skip1 1536 1024 (by omega) _ _ _ r l (by omega)).trans (hit1 1024 (by omega) _ _ _ r l)))))).trans ((n49 _ _ r l).trans (congrArg₂ (· * ·) (v194_eq c arg2 harg2 arg3 harg3 arg13 x0 x1 r l) (L_eq c arg2 harg2 arg3 harg3 arg13 x0 x1 l)))

theorem q3 (r l : Fin 512) : View.canon (kernelRun0_A.sl.HS1_8 (F := Ideal) c arg2 harg2 arg3 harg3 arg13 x0 x1) (ix2 (row 1536 (by omega) r) l) = Soft.wt (score x0 x1 l) (row 1536 (by omega) r) := by
  exact ((skip1 3584 1536 (by omega) _ _ _ r l (by omega)).trans ((skip1 3072 1536 (by omega) _ _ _ r l (by omega)).trans ((skip1 2560 1536 (by omega) _ _ _ r l (by omega)).trans ((skip1 2048 1536 (by omega) _ _ _ r l (by omega)).trans (hit1 1536 (by omega) _ _ _ r l))))).trans ((n50 _ _ r l).trans (congrArg₂ (· * ·) (v201_eq c arg2 harg2 arg3 harg3 arg13 x0 x1 r l) (L_eq c arg2 harg2 arg3 harg3 arg13 x0 x1 l)))

theorem q4 (r l : Fin 512) : View.canon (kernelRun0_A.sl.HS1_8 (F := Ideal) c arg2 harg2 arg3 harg3 arg13 x0 x1) (ix2 (row 2048 (by omega) r) l) = Soft.wt (score x0 x1 l) (row 2048 (by omega) r) := by
  exact ((skip1 3584 2048 (by omega) _ _ _ r l (by omega)).trans ((skip1 3072 2048 (by omega) _ _ _ r l (by omega)).trans ((skip1 2560 2048 (by omega) _ _ _ r l (by omega)).trans (hit1 2048 (by omega) _ _ _ r l)))).trans ((n51 _ _ r l).trans (congrArg₂ (· * ·) (v208_eq c arg2 harg2 arg3 harg3 arg13 x0 x1 r l) (L_eq c arg2 harg2 arg3 harg3 arg13 x0 x1 l)))

theorem q5 (r l : Fin 512) : View.canon (kernelRun0_A.sl.HS1_8 (F := Ideal) c arg2 harg2 arg3 harg3 arg13 x0 x1) (ix2 (row 2560 (by omega) r) l) = Soft.wt (score x0 x1 l) (row 2560 (by omega) r) := by
  exact ((skip1 3584 2560 (by omega) _ _ _ r l (by omega)).trans ((skip1 3072 2560 (by omega) _ _ _ r l (by omega)).trans (hit1 2560 (by omega) _ _ _ r l))).trans ((n52 _ _ r l).trans (congrArg₂ (· * ·) (v215_eq c arg2 harg2 arg3 harg3 arg13 x0 x1 r l) (L_eq c arg2 harg2 arg3 harg3 arg13 x0 x1 l)))

theorem q6 (r l : Fin 512) : View.canon (kernelRun0_A.sl.HS1_8 (F := Ideal) c arg2 harg2 arg3 harg3 arg13 x0 x1) (ix2 (row 3072 (by omega) r) l) = Soft.wt (score x0 x1 l) (row 3072 (by omega) r) := by
  exact ((skip1 3584 3072 (by omega) _ _ _ r l (by omega)).trans (hit1 3072 (by omega) _ _ _ r l)).trans ((n53 _ _ r l).trans (congrArg₂ (· * ·) (v222_eq c arg2 harg2 arg3 harg3 arg13 x0 x1 r l) (L_eq c arg2 harg2 arg3 harg3 arg13 x0 x1 l)))

theorem q7 (r l : Fin 512) : View.canon (kernelRun0_A.sl.HS1_8 (F := Ideal) c arg2 harg2 arg3 harg3 arg13 x0 x1) (ix2 (row 3584 (by omega) r) l) = Soft.wt (score x0 x1 l) (row 3584 (by omega) r) := by
  exact (hit1 3584 (by omega) _ _ _ r l).trans ((n54 _ _ r l).trans (congrArg₂ (· * ·) (v229_eq c arg2 harg2 arg3 harg3 arg13 x0 x1 r l) (L_eq c arg2 harg2 arg3 harg3 arg13 x0 x1 l)))

theorem row_of (a : ℕ) (h : a + 512 ≤ 4096) (j : Fin 4096) (h1 : a ≤ j.val) (h2 : j.val < a + 512) : ∃ r, row a h r = j :=
  ⟨⟨j.val - a, by omega⟩, Fin.ext (by show a + (j.val - a) = j.val; omega)⟩

theorem v238_eq (j : Fin 4096) (l : Fin 512) : (kernelRun0_A.sl.v238 (F := Ideal) c arg2 harg2 arg3 harg3 arg13 arg14 x0 x1) (ix2 j l) = Soft.wt (score x0 x1 l) j := by
  unfold kernelRun0_A.sl.v238
  rw [View.readCov_eq_canon']
  have e : (Rect.unit (s := S4096x512) ![0, 0] S4096x512.size inb_S4096x512_S4096x512_0_0).toLoadRect.idx (ix2 j l) = ix2 j l := by
    funext i
    refine Fin.ext ?_
    fin_cases i
    · show 0 + 1 * j.val = j.val
      omega
    · show 0 + 1 * l.val = l.val
      omega
  refine (congrArg (View.canon (kernelRun0_A.sl.HS1_8 (F := Ideal) c arg2 harg2 arg3 harg3 arg13 x0 x1)) e).trans ?_
  have hj := j.isLt
  rcases Nat.lt_or_ge j.val 512 with h0 | h0
  · obtain ⟨r, hr⟩ := row_of 0 (by omega) j (by omega) (by omega)
    rw [← hr]
    exact q0 c arg2 harg2 arg3 harg3 arg13 x0 x1 r l
  rcases Nat.lt_or_ge j.val 1024 with h1 | h1
  · obtain ⟨r, hr⟩ := row_of 512 (by omega) j (by omega) (by omega)
    rw [← hr]
    exact q1 c arg2 harg2 arg3 harg3 arg13 x0 x1 r l
  rcases Nat.lt_or_ge j.val 1536 with h2 | h2
  · obtain ⟨r, hr⟩ := row_of 1024 (by omega) j (by omega) (by omega)
    rw [← hr]
    exact q2 c arg2 harg2 arg3 harg3 arg13 x0 x1 r l
  rcases Nat.lt_or_ge j.val 2048 with h3 | h3
  · obtain ⟨r, hr⟩ := row_of 1536 (by omega) j (by omega) (by omega)
    rw [← hr]
    exact q3 c arg2 harg2 arg3 harg3 arg13 x0 x1 r l
  rcases Nat.lt_or_ge j.val 2560 with h4 | h4
  · obtain ⟨r, hr⟩ := row_of 2048 (by omega) j (by omega) (by omega)
    rw [← hr]
    exact q4 c arg2 harg2 arg3 harg3 arg13 x0 x1 r l
  rcases Nat.lt_or_ge j.val 3072 with h5 | h5
  · obtain ⟨r, hr⟩ := row_of 2560 (by omega) j (by omega) (by omega)
    rw [← hr]
    exact q5 c arg2 harg2 arg3 harg3 arg13 x0 x1 r l
  rcases Nat.lt_or_ge j.val 3584 with h6 | h6
  · obtain ⟨r, hr⟩ := row_of 3072 (by omega) j (by omega) (by omega)
    rw [← hr]
    exact q6 c arg2 harg2 arg3 harg3 arg13 x0 x1 r l

  · obtain ⟨r, hr⟩ := row_of 3584 (by omega) j (by omega) (by omega)
    rw [← hr]
    exact q7 c arg2 harg2 arg3 harg3 arg13 x0 x1 r l

/-- The attention output of the block's token `l`. -/
def att (x0 : Vec Ideal S1x512x512 .bf16) (x1 : Vec Ideal S1x4096x512 .bf16) (x2 : Vec Ideal S1x512x4096 .bf16) (l d : Fin 512) : EReal :=
  Soft.ov (fun d j => x2 (ix3 (0 : Fin 1) d j)) (score x0 x1 l) d

theorem att_eq (d l : Fin 512) : k0_pay55 (View.readAt (Elt Ideal) arg4.view (Rect.unit (s := S1x512x4096) ![0, 0, 0] S1x512x4096.size inb_S1x512x4096_S1x512x4096_0_0_0).toLoadRect (harg4.unread x2)) (kernelRun0_A.sl.v238 (F := Ideal) c arg2 harg2 arg3 harg3 arg13 arg14 x0 x1) (ix2 d l) = att x0 x1 x2 l d := by
  unfold att Soft.ov
  refine (o55 _ _ d l).trans (Finset.sum_congr rfl fun j _ => ?_)
  exact congrArg₂ (· * ·) (ldV arg4 harg4 x2 d j) (v238_eq c arg2 harg2 arg3 harg3 arg13 arg14 x0 x1 j l)

theorem r_13_eq (d l : Fin 512) : (kernelRun0_A.sl.r_13 (F := Ideal) c arg2 harg2 arg3 harg3 arg4 harg4 arg13 arg14 x0 x1 x2) (ix2 d l) = att x0 x1 x2 l d :=
  att_eq c arg2 harg2 arg3 harg3 arg4 harg4 arg13 arg14 x0 x1 x2 d l

theorem r_15_eq (l : Fin 512) : k0_pay57 (kernelRun0_A.sl.r_14 (F := Ideal) c arg2 harg2 arg3 harg3 arg4 harg4 arg13 arg14 x0 x1 x2) (ix2 (0 : Fin 1) l) = Soft.tt (att x0 x1 x2 l) := by
  unfold kernelRun0_A.sl.r_14
  refine (t57 _ _ l).trans (congrArg Soft.tt (funext fun d => ?_))
  exact att_eq c arg2 harg2 arg3 harg3 arg4 harg4 arg13 arg14 x0 x1 x2 d l

end Cert.KernelIdeal.Gen

end
-- ==== Proof.Pay2.lean ====
module

public import proofs.«01_k».proof.Proof.Gen.KernelIdeal.Value
public import proofs.«01_k».proof.Proof.Pay
public import Idealize.ShloMosaic.Lib.Pointwise

@[expose] public section

set_option maxRecDepth 16384
set_option maxHeartbeats 1000000

noncomputable section

open Idealize.ShloMosaic Idealize.ShloMosaic.TcCoe Idealize.SL.Sem

namespace Cert.KernelIdeal.Gen

/-- One step of the search, of every token at once. -/
def vstep (v : FVec Ideal S1x512 .f32) (b : BitVec 32) (u : IVec S1x512 32) : IVec S1x512 32 :=
  select (cmpf .oge v (bitcastToFloat .f32 (shli (addi u (broadcast S1x512 b)) (broadcast S1x512 23#32)))) (addi u (broadcast S1x512 b)) u

theorem vstep_eq (v : FVec Ideal S1x512 .f32) (b : BitVec 32) (u : IVec S1x512 32) (i : S1x512.Idx) : vstep v b u i = Quant.step (v i) (u i) b := by
  unfold Quant.step Quant.pat
  show Scalar.select (FloatOps.cmpf (F := Ideal) (φ := .f32) .oge (v i) (Ideal.ofBits .f32 ((u i + b) <<< (23#32).toNat))) (u i + b) (u i) = _
  generalize u i + b = z
  show Scalar.select (BitVec.ofBool (decide (Ideal.ofBits .f32 (z <<< 23) ≤ v i))) z (u i) = _
  by_cases h : Ideal.ofBits .f32 (z <<< 23) ≤ v i
  · rw [if_pos h, decide_eq_true h]; rfl
  · rw [if_neg h, decide_eq_false h]; rfl

theorem v58 (u : FVec Ideal S512 .f32) : k0_pay58 u = vstep (k0_pay57 u) 4#32 (vstep (k0_pay57 u) 8#32 (vstep (k0_pay57 u) 16#32
    (vstep (k0_pay57 u) 32#32 (vstep (k0_pay57 u) 64#32 (vstep (k0_pay57 u) 128#32 (broadcast S1x512 0#32)))))) := rfl

theorem minsi_eq (w z : BitVec 32) : IntOp.minsi w z = if w.sle z = true then w else z := by
  unfold IntOp.minsi
  rw [BitVec.slt, BitVec.sle]
  rcases lt_trichotomy w.toInt z.toInt with h | h | h
  · rw [decide_eq_true h, decide_eq_true h.le]
  · rw [BitVec.eq_of_toInt_eq h]; simp
  · rw [decide_eq_false (by omega), decide_eq_false (by omega)]

theorem v59 (v : FVec Ideal S1x512 .f32) (u : IVec S1x512 32) : k0_pay59 v u =
    (fun i => Quant.expo (vstep v 1#32 (vstep v 2#32 u) i)) := by
  funext i
  show Scalar.select (IntOp.cmpi .eq (IntOp.minsi (vstep v 1#32 (vstep v 2#32 u) i) 252#32) 0#32) 0#32 (IntOp.subi (IntOp.minsi (vstep v 1#32 (vstep v 2#32 u) i) 252#32) 126#32) = _
  generalize vstep v 1#32 (vstep v 2#32 u) i = w
  unfold Quant.expo
  rw [show IntOp.minsi w 252#32 = (if w.sle 252#32 = true then w else 252#32) from minsi_eq _ _]
  generalize (if w.sle 252#32 = true then w else 252#32) = z
  show Scalar.select (IntOp.cmpi .eq z 0#32) 0#32 (IntOp.subi z 126#32) = (if z = 0#32 then 0#32 else z - 126#32)
  by_cases h : z = 0#32
  · rw [if_pos h]; subst h; rfl
  · rw [if_neg h]
    show Scalar.select (BitVec.ofBool (z == 0#32)) 0#32 (z - 126#32) = _
    rw [beq_false_of_ne h]; rfl

theorem f59 (u : FVec Ideal S512 .f32) (i : S1x512.Idx) : k0_pay59 (k0_pay57 u) (k0_pay58 u) i = Quant.expo (Quant.field (k0_pay57 u i)) := by
  rw [v59, v58]
  simp only [vstep_eq]
  rfl

theorem s60 (u : FVec Ideal S512 .f32) (l : Fin 512) :
    k0_pay60 (k0_pay57 u) (k0_pay58 u) (ix2 (0 : Fin 1) l) = Ideal.exp2 (Quant.eLog (k0_pay57 u (ix2 (0 : Fin 1) l))) := by
  show Ideal.ofBits .f32 ((k0_pay59 (k0_pay57 u) (k0_pay58 u) (ix2 (0 : Fin 1) l) + 127#32) <<< (23#32).toNat) = _
  rw [f59]
  exact Quant.scale_eq _

theorem s61 (o : FVec Ideal S512x512 .f32) (u : FVec Ideal S512 .f32) (r l : Fin 512) :
    k0_pay61 o (k0_pay57 u) (k0_pay58 u) (ix2 r l) = min (Ideal.ofBits .f32 0x43E00000#32) (max (Ideal.ofBits .f32 0xC3E00000#32)
      (o (ix2 r l) * Ideal.exp2 (Ideal.ofBits .f32 0x00000000#32 - Quant.eLog (k0_pay57 u (ix2 (0 : Fin 1) l))))) := by
  rw [← Quant.inv_eq, ← f59]
  pointwise [k0_pay61]
  first | done | rfl

theorem s62 (o : FVec Ideal S512x512 .f32) (m : FVec Ideal S1x512 .f32) (u : IVec S1x512 32) (r l : Fin 512) : k0_pay62 o m u (ix3 (0 : Fin 1) r l) = k0_pay61 o m u (ix2 r l) := by
  pointwise [k0_pay62]

theorem s1 (m : FVec Ideal S1x512 .f32) (l : Fin 512) : k0_pay1 m (ix3 (0 : Fin 1) (0 : Fin 1) l) = m (ix2 (0 : Fin 1) l) := by
  pointwise [k0_pay1]

theorem s2 (m : FVec Ideal S1x512 .f32) (cd : FVec Ideal S512x512 .fp8e4m3) (w : Vec Ideal S512x512 .fp8e4m3) (so bo : Vec Ideal S512x128 .f32) (fs fb : Fin 512 → EReal)
    (hs : ∀ e z, so (ix2 e z) = fs e) (hb : ∀ e z, bo (ix2 e z) = fb e) (e l : Fin 512) : k0_pay2 m cd w so bo (ix2 e l)
    = (∑ d : Fin 512, w (ix2 e d) * cd (ix2 d l)) * m (ix2 (0 : Fin 1) l) * fs e + fb e := by
  pointwise [k0_pay2]
  simp only [hs, hb]
  split_ifs <;> first | rfl | omega

theorem s3 (m : FVec Ideal S1x512 .f32) (cd : FVec Ideal S512x512 .fp8e4m3) (w : Vec Ideal S512x512 .fp8e4m3) (so bo : Vec Ideal S512x128 .f32) (e l : Fin 512) : k0_pay3 m cd w so bo (ix3 (0 : Fin 1) e l) = k0_pay2 m cd w so bo (ix2 e l) := by
  pointwise [k0_pay3]

theorem s4 (m : FVec Ideal S1x512 .f32) (cd : FVec Ideal S512x512 .fp8e4m3) (w : Vec Ideal S512x512 .fp8e4m3) (so bo : Vec Ideal S512x128 .f32) (x : Vec Ideal S1x512x512 .bf16) (e l : Fin 512) : k0_pay4 m cd w so bo x (ix3 (0 : Fin 1) e l) = x (ix3 (0 : Fin 1) e l) + k0_pay2 m cd w so bo (ix2 e l) := by
  pointwise [k0_pay4]

end Cert.KernelIdeal.Gen

end
-- ==== Proof.Kern2.lean ====
module

public import proofs.«01_k».proof.Proof.Gen.KernelIdeal.Value
public import proofs.«01_k».proof.Proof.KernO
public import proofs.«01_k».proof.Proof.Pay2
public import Idealize.ShloMosaic.Lib.Pointwise

@[expose] public section

set_option maxRecDepth 16384
set_option maxHeartbeats 60000

noncomputable section

open Idealize.ShloMosaic Idealize.ShloMosaic.TcCoe Idealize.SL.Sem

namespace Cert.KernelIdeal.Gen

variable (c : Dev nD) (arg2 : Memref sig .tc .vmem S1x512x512 .bf16) (harg2 : arg2.IsWhole)
  (arg3 : Memref sig .tc .vmem S1x4096x512 .bf16) (harg3 : arg3.IsWhole)
  (arg4 : Memref sig .tc .vmem S1x512x4096 .bf16) (harg4 : arg4.IsWhole)
  (arg13 : Memref sig .tc .vmem S4096x512 .f32) (arg14 : Memref sig .tc .vmem S4096x512 .bf16)
  (x0 : Vec Ideal S1x512x512 .bf16) (x1 : Vec Ideal S1x4096x512 .bf16) (x2 : Vec Ideal S1x512x4096 .bf16)

theorem r_17_eq (l : Fin 512) : (kernelRun0_A.sl.r_17 (F := Ideal) c arg2 harg2 arg3 harg3 arg4 harg4 arg13 arg14 x0 x1 x2) (ix2 (0 : Fin 1) l) = Soft.sc (att x0 x1 x2 l) := by
  unfold kernelRun0_A.sl.r_17 kernelRun0_A.sl.r_15 kernelRun0_A.sl.r_16
  rw [s60, r_15_eq]
  rfl

theorem r_18_eq (d l : Fin 512) : (kernelRun0_A.sl.r_18 (F := Ideal) c arg2 harg2 arg3 harg3 arg4 harg4 arg13 arg14 x0 x1 x2) (ix2 d l) = Soft.cd (att x0 x1 x2 l) d := by
  unfold kernelRun0_A.sl.r_18 kernelRun0_A.sl.r_15 kernelRun0_A.sl.r_16
  rw [s61, r_15_eq, r_13_eq]
  rfl

end Cert.KernelIdeal.Gen

end
-- ==== Proof.KernF.lean ====
module

public import proofs.«01_k».proof.Proof.Kern2

@[expose] public section

set_option maxRecDepth 16384
set_option maxHeartbeats 200000

noncomputable section

open Idealize.ShloMosaic Idealize.ShloMosaic.TcCoe Idealize.SL.Sem

namespace Cert.KernelIdeal.Gen

theorem ldW (a : Memref sig .tc .vmem S512x512 .fp8e4m3) (h : a.IsWhole) (x : Vec Ideal S512x512 .fp8e4m3) (e d : Fin 512) :
    (View.readAt (Elt Ideal) a.view (Rect.unit (s := S512x512) ![0, 0] S512x512.size inb_S512x512_S512x512_0_0).toLoadRect (h.unread x)) (ix2 e d) = x (ix2 e d) := by
  rw [View.readAt_eq_ld, h.read_unread]
  pointwise []

theorem ldS (a : Memref sig .tc .vmem S512x128 .f32) (h : a.IsWhole) (x : Vec Ideal S512x128 .f32) (e : Fin 512) (z : Fin 128) :
    (View.readAt (Elt Ideal) a.view (Rect.unit (s := S512x128) ![0, 0] S512x128.size inb_S512x128_S512x128_0_0).toLoadRect (h.unread x)) (ix2 e z) = x (ix2 e z) := by
  rw [View.readAt_eq_ld, h.read_unread]
  pointwise []

theorem z3 : (![0, 0, 0] : Fin 3 → ℕ) = fun _ => 0 := funext fun a => by fin_cases a <;> rfl

variable (c : Dev nD) (i : grid0.Coords) (arg2 : Memref sig .tc .vmem S1x512x512 .bf16) (harg2 : arg2.IsWhole) (arg3 : Memref sig .tc .vmem S1x4096x512 .bf16) (harg3 : arg3.IsWhole) (arg4 : Memref sig .tc .vmem S1x512x4096 .bf16) (harg4 : arg4.IsWhole) (arg5 : Memref sig .tc .vmem S1x512x512 .bf16) (harg5 : arg5.IsWhole) (arg6 : Memref sig .tc .vmem S512x512 .fp8e4m3) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .fp8e4m3) (harg11 : arg11.IsWhole) (arg12 : Memref sig .tc .vmem S1x1x512 .f32) (harg12 : arg12.IsWhole) (arg13 : Memref sig .tc .vmem S4096x512 .f32) (harg13 : arg13.IsWhole) (arg14 : Memref sig .tc .vmem S4096x512 .bf16) (harg14 : arg14.IsWhole)
    (x0 : Vec Ideal S1x512x512 .bf16) (x1 : Vec Ideal S1x4096x512 .bf16) (x2 : Vec Ideal S1x512x4096 .bf16) (x3 : Vec Ideal S1x512x512 .bf16) (x4 : Vec Ideal S512x512 .fp8e4m3) (x5 : Vec Ideal S512x128 .f32) (x6 : Vec Ideal S512x128 .f32)
  (fs fb : Fin 512 → EReal) (e d l : Fin 512)

theorem out10 : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 (0 : Fin 1) (0 : Fin 1) l) = Soft.sc (att x0 x1 x2 l) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  refine (congrFun (View.canon_unit_zero z3 _ _) _).trans ?_
  exact (s1 _ l).trans (r_17_eq c arg2 harg2 arg3 harg3 arg4 harg4 arg13 arg14 x0 x1 x2 l)

theorem out9 : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 (0 : Fin 1) d l) = Soft.cd (att x0 x1 x2 l) d := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  refine (congrFun (View.canon_unit_zero z3 _ _) _).trans ?_
  exact (s62 _ _ _ d l).trans (r_18_eq c arg2 harg2 arg3 harg3 arg4 harg4 arg13 arg14 x0 x1 x2 d l)

theorem out8 (hs : ∀ e z, x5 (ix2 e z) = fs e) (hb : ∀ e z, x6 (ix2 e z) = fb e) :
    out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 (0 : Fin 1) e l) = Soft.pj (fun d e => x4 (ix2 e d)) fs fb (att x0 x1 x2 l) e := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  refine (congrFun (View.canon_unit_zero z3 _ _) _).trans ?_
  exact (s3 _ _ _ _ _ e l).trans ((s2 _ _ _ _ _ fs fb (fun e z => (ldS arg7 harg7 x5 e z).trans (hs e z)) (fun e z => (ldS arg8 harg8 x6 e z).trans (hb e z)) e l).trans
    (congrArg (· + fb e) (congrArg (· * fs e) (congrArg₂ (· * ·) (Finset.sum_congr rfl fun d _ => congrArg₂ (· * ·) (ldW arg6 harg6 x4 e d) (r_18_eq c arg2 harg2 arg3 harg3 arg4 harg4 arg13 arg14 x0 x1 x2 d l)) (r_17_eq c arg2 harg2 arg3 harg3 arg4 harg4 arg13 arg14 x0 x1 x2 l)))))

theorem out7 (hs : ∀ e z, x5 (ix2 e z) = fs e) (hb : ∀ e z, x6 (ix2 e z) = fb e) :
    out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 (0 : Fin 1) e l) = x3 (ix3 (0 : Fin 1) e l) + Soft.pj (fun d e => x4 (ix2 e d)) fs fb (att x0 x1 x2 l) e := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  refine (congrFun (View.canon_unit_zero z3 _ _) _).trans ?_
  exact (s4 _ _ _ _ _ _ e l).trans (congrArg₂ (· + ·) (ldQ arg5 harg5 x3 e l) ((s2 _ _ _ _ _ fs fb (fun e z => (ldS arg7 harg7 x5 e z).trans (hs e z)) (fun e z => (ldS arg8 harg8 x6 e z).trans (hb e z)) e l).trans
    (congrArg (· + fb e) (congrArg (· * fs e) (congrArg₂ (· * ·) (Finset.sum_congr rfl fun d _ => congrArg₂ (· * ·) (ldW arg6 harg6 x4 e d) (r_18_eq c arg2 harg2 arg3 harg3 arg4 harg4 arg13 arg14 x0 x1 x2 d l)) (r_17_eq c arg2 harg2 arg3 harg3 arg4 harg4 arg13 arg14 x0 x1 x2 l))))))

end Cert.KernelIdeal.Gen

end
-- ==== Proof.Spec.lean ====
module

public import proofs.«01_k».proof.Proof.Soft

@[expose] public section

noncomputable section

open Idealize.ShloMosaic

namespace Soft

variable (q : Fin 2 → Fin 512 → Fin 4096 → EReal) (k : Fin 2 → Fin 4096 → Fin 512 → EReal) (v x : Fin 2 → Fin 512 → Fin 4096 → EReal)
  (w : Fin 512 → Fin 512 → EReal) (so bo : Fin 512 → EReal)

/-- The attention output of image `b`, token `l`, channel `d`. -/
def aO (b : Fin 2) (l : Fin 4096) (d : Fin 512) : EReal := ov (v b) (fun j => ∑ z : Fin 512, k b j z * q b z l) d

/-- The projection. -/
def aP (b : Fin 2) (e : Fin 512) (l : Fin 4096) : EReal := pj w so bo (aO q k v b l) e

/-- The block's output: the input plus the projection. -/
def aY (b : Fin 2) (e : Fin 512) (l : Fin 4096) : EReal := x b e l + aP q k v w so bo b e l

/-- The codes of the attention output. -/
def aC (b : Fin 2) (d : Fin 512) (l : Fin 4096) : EReal := cd (aO q k v b l) d

/-- Their scales. -/
def aS (b : Fin 2) (l : Fin 4096) : EReal := sc (aO q k v b l)

end Soft

end
-- ==== Proof.KernA.lean ====
module

public import proofs.«01_k».proof.Proof.KernF
public import proofs.«01_k».proof.Proof.Spec
public import proofs.«01_k».proof.Proof.Gen.KernelIdeal.Value
public import Idealize.ShloMosaic.Lib.Pointwise

@[expose] public section

set_option maxRecDepth 16384
set_option maxHeartbeats 200000

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD)

/-- The arguments as functions of their places. -/
def aq (b : Fin 2) (d : Fin 512) (l : Fin 4096) : EReal := m ((c : Thread nD τ).loc main_arg0) (ix3 b d l)
def ak (b : Fin 2) (j : Fin 4096) (d : Fin 512) : EReal := m ((c : Thread nD τ).loc main_arg1) (ix3 b j d)
def av (b : Fin 2) (d : Fin 512) (j : Fin 4096) : EReal := m ((c : Thread nD τ).loc main_arg2) (ix3 b d j)
def ax (b : Fin 2) (d : Fin 512) (l : Fin 4096) : EReal := m ((c : Thread nD τ).loc main_arg3) (ix3 b d l)
def aw (d e : Fin 512) : EReal := m ((c : Thread nD τ).loc main_arg4) (ix2 d e)
def aso (e : Fin 512) : EReal := m ((c : Thread nD τ).loc main_arg5) (ix1 e)
def abo (e : Fin 512) : EReal := m ((c : Thread nD τ).loc main_arg6) (ix1 e)

/-- The four results as functions of the arguments. -/
def res7 : Vec Ideal S2x512x4096 .bf16 := fun i => Soft.aY (aq m c) (ak m c) (av m c) (ax m c) (aw m c) (aso m c) (abo m c) (i 0) (i 1) (i 2)
def res8 : Vec Ideal S2x512x4096 .bf16 := fun i => Soft.aP (aq m c) (ak m c) (av m c) (aw m c) (aso m c) (abo m c) (i 0) (i 1) (i 2)
def res9 : Vec Ideal S2x512x4096 .fp8e4m3 := fun i => Soft.aC (aq m c) (ak m c) (av m c) (i 0) (i 1) (i 2)
def res10 : Vec Ideal S2x1x4096 .f32 := fun i => Soft.aS (aq m c) (ak m c) (av m c) (i 0) (i 2)

theorem V4 (e d : Fin 512) : (V m c main_v0 : Vec Ideal S512x512 .fp8e4m3) (ix2 e d) = aw m c d e := by
  unfold V hostOps0
  after_results
  pointwise [aw]

theorem V5 (e : Fin 512) (z : Fin 128) : (V m c main_v2 : Vec Ideal S512x128 .f32) (ix2 e z) = aso m c e := by
  unfold V hostOps0
  after_results
  pointwise [aso]

theorem V6 (e : Fin 512) (z : Fin 128) : (V m c main_v4 : Vec Ideal S512x128 .f32) (ix2 e z) = abo m c e := by
  unfold V hostOps0
  after_results
  pointwise [abo]

/-- The image of a grid point and the token of a place in its block. -/
def im (t : Fin cfg0.N) : Fin 2 := ⟨t.val / 8, by have h : cfg0.N = 16 := N_0; have := t.isLt; omega⟩
def tok (t : Fin cfg0.N) (l : Fin 512) : Fin 4096 := ⟨t.val % 8 * 512 + l.val, by have := l.isLt; omega⟩

theorem at0 : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)

theorem at3 : ∀ t : Fin cfg0.N, win0_3.index t 0 = t.val / 8 ∧ win0_3.index t 1 = 0 ∧ win0_3.index t 2 = t.val % 8 :=
  (by decide +kernel : ∀ t : Fin grid0.N, win0_3.index t 0 = t.val / 8 ∧ win0_3.index t 1 = 0 ∧ win0_3.index t 2 = t.val % 8)

theorem at7 : ∀ t : Fin cfg0.N, win0_7.index t 0 = t.val / 8 ∧ win0_7.index t 1 = 0 ∧ win0_7.index t 2 = t.val % 8 :=
  (by decide +kernel : ∀ t : Fin grid0.N, win0_7.index t 0 = t.val / 8 ∧ win0_7.index t 1 = 0 ∧ win0_7.index t 2 = t.val % 8)

theorem at8 : ∀ t : Fin cfg0.N, win0_8.index t 0 = t.val / 8 ∧ win0_8.index t 1 = 0 ∧ win0_8.index t 2 = t.val % 8 :=
  (by decide +kernel : ∀ t : Fin grid0.N, win0_8.index t 0 = t.val / 8 ∧ win0_8.index t 1 = 0 ∧ win0_8.index t 2 = t.val % 8)

theorem at9 : ∀ t : Fin cfg0.N, win0_9.index t 0 = t.val / 8 ∧ win0_9.index t 1 = 0 ∧ win0_9.index t 2 = t.val % 8 :=
  (by decide +kernel : ∀ t : Fin grid0.N, win0_9.index t 0 = t.val / 8 ∧ win0_9.index t 1 = 0 ∧ win0_9.index t 2 = t.val % 8)

theorem at10 : ∀ t : Fin cfg0.N, win0_10.index t 0 = t.val / 8 ∧ win0_10.index t 1 = 0 ∧ win0_10.index t 2 = t.val % 8 :=
  (by decide +kernel : ∀ t : Fin grid0.N, win0_10.index t 0 = t.val / 8 ∧ win0_10.index t 1 = 0 ∧ win0_10.index t 2 = t.val % 8)

theorem at1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

theorem at2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

theorem at4 : ∀ t : Fin cfg0.N, win0_4.index t 0 = 0 ∧ win0_4.index t 1 = 0 :=
  (by decide +kernel : ∀ t : Fin grid0.N, win0_4.index t 0 = 0 ∧ win0_4.index t 1 = 0)

theorem at5 : ∀ t : Fin cfg0.N, win0_5.index t 0 = 0 ∧ win0_5.index t 1 = 0 :=
  (by decide +kernel : ∀ t : Fin grid0.N, win0_5.index t 0 = 0 ∧ win0_5.index t 1 = 0)

theorem at6 : ∀ t : Fin cfg0.N, win0_6.index t 0 = 0 ∧ win0_6.index t 1 = 0 :=
  (by decide +kernel : ∀ t : Fin grid0.N, win0_6.index t 0 = 0 ∧ win0_6.index t 1 = 0)

theorem emb0 (t : Fin cfg0.N) (d : Fin 512) (l : Fin 512) : ((cfg0.win 0).blk t).view.emb (ix3 (0 : Fin 1) d l) = ix3 (im t) d (tok t l) := by
  funext a
  apply Fin.ext
  match a with
  | ⟨0, _⟩ => show win0_0.index t 0 * 1 + 1 * 0 = t.val / 8; rw [(at0 t).1]; omega
  | ⟨1, _⟩ => show win0_0.index t 1 * 512 + 1 * d.val = d.val; rw [(at0 t).2.1]; omega
  | ⟨2, _⟩ => show win0_0.index t 2 * 512 + 1 * l.val = t.val % 8 * 512 + l.val; rw [(at0 t).2.2]; omega

theorem emb3 (t : Fin cfg0.N) (d : Fin 512) (l : Fin 512) : ((cfg0.win 3).blk t).view.emb (ix3 (0 : Fin 1) d l) = ix3 (im t) d (tok t l) := by
  funext a
  apply Fin.ext
  match a with
  | ⟨0, _⟩ => show win0_3.index t 0 * 1 + 1 * 0 = t.val / 8; rw [(at3 t).1]; omega
  | ⟨1, _⟩ => show win0_3.index t 1 * 512 + 1 * d.val = d.val; rw [(at3 t).2.1]; omega
  | ⟨2, _⟩ => show win0_3.index t 2 * 512 + 1 * l.val = t.val % 8 * 512 + l.val; rw [(at3 t).2.2]; omega

theorem emb7 (t : Fin cfg0.N) (d : Fin 512) (l : Fin 512) : ((cfg0.win 7).blk t).view.emb (ix3 (0 : Fin 1) d l) = ix3 (im t) d (tok t l) := by
  funext a
  apply Fin.ext
  match a with
  | ⟨0, _⟩ => show win0_7.index t 0 * 1 + 1 * 0 = t.val / 8; rw [(at7 t).1]; omega
  | ⟨1, _⟩ => show win0_7.index t 1 * 512 + 1 * d.val = d.val; rw [(at7 t).2.1]; omega
  | ⟨2, _⟩ => show win0_7.index t 2 * 512 + 1 * l.val = t.val % 8 * 512 + l.val; rw [(at7 t).2.2]; omega

theorem emb8 (t : Fin cfg0.N) (d : Fin 512) (l : Fin 512) : ((cfg0.win 8).blk t).view.emb (ix3 (0 : Fin 1) d l) = ix3 (im t) d (tok t l) := by
  funext a
  apply Fin.ext
  match a with
  | ⟨0, _⟩ => show win0_8.index t 0 * 1 + 1 * 0 = t.val / 8; rw [(at8 t).1]; omega
  | ⟨1, _⟩ => show win0_8.index t 1 * 512 + 1 * d.val = d.val; rw [(at8 t).2.1]; omega
  | ⟨2, _⟩ => show win0_8.index t 2 * 512 + 1 * l.val = t.val % 8 * 512 + l.val; rw [(at8 t).2.2]; omega

theorem emb9 (t : Fin cfg0.N) (d : Fin 512) (l : Fin 512) : ((cfg0.win 9).blk t).view.emb (ix3 (0 : Fin 1) d l) = ix3 (im t) d (tok t l) := by
  funext a
  apply Fin.ext
  match a with
  | ⟨0, _⟩ => show win0_9.index t 0 * 1 + 1 * 0 = t.val / 8; rw [(at9 t).1]; omega
  | ⟨1, _⟩ => show win0_9.index t 1 * 512 + 1 * d.val = d.val; rw [(at9 t).2.1]; omega
  | ⟨2, _⟩ => show win0_9.index t 2 * 512 + 1 * l.val = t.val % 8 * 512 + l.val; rw [(at9 t).2.2]; omega

theorem emb10 (t : Fin cfg0.N) (d : Fin 1) (l : Fin 512) : ((cfg0.win 10).blk t).view.emb (ix3 (0 : Fin 1) d l) = ix3 (im t) d (tok t l) := by
  funext a
  apply Fin.ext
  match a with
  | ⟨0, _⟩ => show win0_10.index t 0 * 1 + 1 * 0 = t.val / 8; rw [(at10 t).1]; omega
  | ⟨1, _⟩ => show win0_10.index t 1 * 1 + 1 * d.val = d.val; rw [(at10 t).2.1]; omega
  | ⟨2, _⟩ => show win0_10.index t 2 * 512 + 1 * l.val = t.val % 8 * 512 + l.val; rw [(at10 t).2.2]; omega

theorem emb1 (t : Fin cfg0.N) (d : Fin 4096) (l : Fin 512) : ((cfg0.win 1).blk t).view.emb (ix3 (0 : Fin 1) d l) = ix3 (im t) d l := by
  funext a
  apply Fin.ext
  match a with
  | ⟨0, _⟩ => show win0_1.index t 0 * 1 + 1 * 0 = t.val / 8; rw [(at1 t).1]; omega
  | ⟨1, _⟩ => show win0_1.index t 1 * 4096 + 1 * d.val = d.val; rw [(at1 t).2.1]; omega
  | ⟨2, _⟩ => show win0_1.index t 2 * 512 + 1 * l.val = l.val; rw [(at1 t).2.2]; omega

theorem emb2 (t : Fin cfg0.N) (d : Fin 512) (l : Fin 4096) : ((cfg0.win 2).blk t).view.emb (ix3 (0 : Fin 1) d l) = ix3 (im t) d l := by
  funext a
  apply Fin.ext
  match a with
  | ⟨0, _⟩ => show win0_2.index t 0 * 1 + 1 * 0 = t.val / 8; rw [(at2 t).1]; omega
  | ⟨1, _⟩ => show win0_2.index t 1 * 512 + 1 * d.val = d.val; rw [(at2 t).2.1]; omega
  | ⟨2, _⟩ => show win0_2.index t 2 * 4096 + 1 * l.val = l.val; rw [(at2 t).2.2]; omega

theorem emb4 (t : Fin cfg0.N) (d : Fin 512) (l : Fin 512) : ((cfg0.win 4).blk t).view.emb (ix2 d l) = ix2 d l := by
  funext a
  apply Fin.ext
  match a with
  | ⟨0, _⟩ => show win0_4.index t 0 * 512 + 1 * d.val = d.val; rw [(at4 t).1]; omega
  | ⟨1, _⟩ => show win0_4.index t 1 * 512 + 1 * l.val = l.val; rw [(at4 t).2]; omega

theorem emb5 (t : Fin cfg0.N) (d : Fin 512) (l : Fin 128) : ((cfg0.win 5).blk t).view.emb (ix2 d l) = ix2 d l := by
  funext a
  apply Fin.ext
  match a with
  | ⟨0, _⟩ => show win0_5.index t 0 * 512 + 1 * d.val = d.val; rw [(at5 t).1]; omega
  | ⟨1, _⟩ => show win0_5.index t 1 * 128 + 1 * l.val = l.val; rw [(at5 t).2]; omega

theorem emb6 (t : Fin cfg0.N) (d : Fin 512) (l : Fin 128) : ((cfg0.win 6).blk t).view.emb (ix2 d l) = ix2 d l := by
  funext a
  apply Fin.ext
  match a with
  | ⟨0, _⟩ => show win0_6.index t 0 * 512 + 1 * d.val = d.val; rw [(at6 t).1]; omega
  | ⟨1, _⟩ => show win0_6.index t 1 * 128 + 1 * l.val = l.val; rw [(at6 t).2]; omega

theorem ib0 (t : Fin cfg0.N) (d : Fin 512) (l : Fin 512) : (iblk m c 0 t : Vec Ideal S1x512x512 .bf16) (ix3 (0 : Fin 1) d l) = aq m c (im t) d (tok t l) := by
  show V m c main_arg0 (((cfg0.win 0).blk t).view.emb (ix3 (0 : Fin 1) d l)) = _
  rw [emb0, V_main_arg0]
  rfl

theorem ib3 (t : Fin cfg0.N) (d : Fin 512) (l : Fin 512) : (iblk m c 3 t : Vec Ideal S1x512x512 .bf16) (ix3 (0 : Fin 1) d l) = ax m c (im t) d (tok t l) := by
  show V m c main_arg3 (((cfg0.win 3).blk t).view.emb (ix3 (0 : Fin 1) d l)) = _
  rw [emb3, V_main_arg3]
  rfl

theorem ib1 (t : Fin cfg0.N) (d : Fin 4096) (l : Fin 512) : (iblk m c 1 t : Vec Ideal S1x4096x512 .bf16) (ix3 (0 : Fin 1) d l) = ak m c (im t) d l := by
  show V m c main_arg1 (((cfg0.win 1).blk t).view.emb (ix3 (0 : Fin 1) d l)) = _
  rw [emb1, V_main_arg1]
  rfl

theorem ib2 (t : Fin cfg0.N) (d : Fin 512) (l : Fin 4096) : (iblk m c 2 t : Vec Ideal S1x512x4096 .bf16) (ix3 (0 : Fin 1) d l) = av m c (im t) d l := by
  show V m c main_arg2 (((cfg0.win 2).blk t).view.emb (ix3 (0 : Fin 1) d l)) = _
  rw [emb2, V_main_arg2]
  rfl

theorem ib4 (t : Fin cfg0.N) (d : Fin 512) (l : Fin 512) : (iblk m c 4 t : Vec Ideal S512x512 .fp8e4m3) (ix2 d l) = aw m c l d := by
  show V m c main_v0 (((cfg0.win 4).blk t).view.emb (ix2 d l)) = _
  rw [emb4]
  exact V4 m c d l

theorem ib5 (t : Fin cfg0.N) (d : Fin 512) (l : Fin 128) : (iblk m c 5 t : Vec Ideal S512x128 .f32) (ix2 d l) = aso m c d := by
  show V m c main_v2 (((cfg0.win 5).blk t).view.emb (ix2 d l)) = _
  rw [emb5]
  exact V5 m c d l

theorem ib6 (t : Fin cfg0.N) (d : Fin 512) (l : Fin 128) : (iblk m c 6 t : Vec Ideal S512x128 .f32) (ix2 d l) = abo m c d := by
  show V m c main_v4 (((cfg0.win 6).blk t).view.emb (ix2 d l)) = _
  rw [emb6]
  exact V6 m c d l

theorem att_eq (t : Fin cfg0.N) (l : Fin 512) : att (iblk m c 0 t) (iblk m c 1 t) (iblk m c 2 t) l = Soft.aO (aq m c) (ak m c) (av m c) (im t) (tok t l) := by
  funext d
  unfold att Soft.aO
  refine congrArg₂ (fun (a : Fin 512 → Fin 4096 → EReal) (b : Fin 4096 → EReal) => Soft.ov a b d) (funext fun d => funext fun j => ib2 m c t d j) (funext fun j => ?_)
  exact Finset.sum_congr rfl fun z _ => congrArg₂ (fun a b : EReal => a * b) (ib1 m c t j z) (ib0 m c t z l)

theorem idx3 {n0 n1 n2 : Nat} (j : (⟨3, ![n0, n1, n2]⟩ : Shape).Idx) : j = ix3 (j 0) (j 1) (j 2) := by
  funext a
  match a with
  | ⟨0, _⟩ => rfl
  | ⟨1, _⟩ => rfl
  | ⟨2, _⟩ => rfl

theorem idx31 {n1 n2 : Nat} (j : (⟨3, ![1, n1, n2]⟩ : Shape).Idx) : j = ix3 (0 : Fin 1) (j 1) (j 2) :=
  (idx3 j).trans (congrArg (fun z : Fin 1 => ix3 z (j 1) (j 2)) (Subsingleton.elim (α := Fin 1) _ _))

theorem idx311 {n2 : Nat} (j : (⟨3, ![1, 1, n2]⟩ : Shape).Idx) : j = ix3 (0 : Fin 1) (0 : Fin 1) (j 2) :=
  (idx31 j).trans (congrArg (fun z : Fin 1 => ix3 (0 : Fin 1) z (j 2)) (Subsingleton.elim (α := Fin 1) _ _))

theorem pt7 (t : Fin cfg0.N) (d : Fin 512) (l : Fin 512) : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (ix3 (0 : Fin 1) d l) = res7 m c (ix3 (im t) d (tok t l)) :=
  (out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (aso m c) (abo m c) d l (fun e z => ib5 m c t e z) (fun e z => ib6 m c t e z)).trans (congrArg₂ (fun a b : EReal => a + b) (ib3 m c t d l) (congrArg₂ (fun (a : Fin 512 → Fin 512 → EReal) (b : Fin 512 → EReal) => Soft.pj a (aso m c) (abo m c) b d) (funext fun d => funext fun e => ib4 m c t e d) (att_eq m c t l)))

theorem flushed_eq7 (t : Fin cfg0.N) : (dats m 0 c).flushed 7 t = ((cfg0.win 7).blk t).view.read (Elt Ideal) (res7 m c) := by
  rw [flushed7_A]
  have key : ∀ j : S1x512x512.Idx, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) j = res7 m c (((cfg0.win 7).blk t).view.emb j) := by
    intro j
    obtain ⟨d, l, rfl⟩ : ∃ (d l : Fin 512), j = ix3 (0 : Fin 1) d l := ⟨j 1, j 2, idx31 j⟩
    rw [emb7]
    exact pt7 m c t d l
  exact funext key

theorem cover7 (i : S2x512x4096.Idx) : ∃ t : Fin cfg0.N, (cfg0.win 7).flush t = true ∧ i ∈ ((cfg0.win 7).blk t).view.set := by
  have h0 : (i 0 : Nat) < 2 := (i 0).isLt
  have h1 : (i 1 : Nat) < 512 := (i 1).isLt
  have h2 : (i 2 : Nat) < 4096 := (i 2).isLt
  have hN : cfg0.N = 16 := N_0
  have hl : (i 0 : Nat) * 8 + (i 2 : Nat) / 512 < cfg0.N := by omega
  refine ⟨⟨(i 0 : Nat) * 8 + (i 2 : Nat) / 512, hl⟩, flush0_7 _, ?_⟩
  have e := View.emb_mem_set ((cfg0.win 7).blk ⟨(i 0 : Nat) * 8 + (i 2 : Nat) / 512, hl⟩).view (ix3 (0 : Fin 1) (⟨(i 1 : Nat), h1⟩ : Fin 512) (⟨(i 2 : Nat) % 512, by omega⟩ : Fin 512))
  rw [emb7] at e
  have h : ix3 (im ⟨(i 0 : Nat) * 8 + (i 2 : Nat) / 512, hl⟩) (⟨(i 1 : Nat), h1⟩ : Fin 512) (tok ⟨(i 0 : Nat) * 8 + (i 2 : Nat) / 512, hl⟩ ⟨(i 2 : Nat) % 512, by omega⟩) = i := by
    funext a
    apply Fin.ext
    match a with
    | ⟨0, _⟩ => show ((i 0 : Nat) * 8 + (i 2 : Nat) / 512) / 8 = (i 0 : Nat); omega
    | ⟨1, _⟩ => rfl
    | ⟨2, _⟩ => show ((i 0 : Nat) * 8 + (i 2 : Nat) / 512) % 8 * 512 + (i 2 : Nat) % 512 = (i 2 : Nat); omega
  rw [h] at e
  exact e

/-- The result array after the run. -/
theorem final7 : (dats m 0 c).arrAt 7 cfg0.N = res7 m c :=
  (dats m 0 c).arrAt_eq_of_cover 7 (res7 m c) (fun t _ => flushed_eq7 m c t) cover7

theorem pt8 (t : Fin cfg0.N) (d : Fin 512) (l : Fin 512) : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (ix3 (0 : Fin 1) d l) = res8 m c (ix3 (im t) d (tok t l)) :=
  (out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (aso m c) (abo m c) d l (fun e z => ib5 m c t e z) (fun e z => ib6 m c t e z)).trans (congrArg₂ (fun (a : Fin 512 → Fin 512 → EReal) (b : Fin 512 → EReal) => Soft.pj a (aso m c) (abo m c) b d) (funext fun d => funext fun e => ib4 m c t e d) (att_eq m c t l))

theorem flushed_eq8 (t : Fin cfg0.N) : (dats m 0 c).flushed 8 t = ((cfg0.win 8).blk t).view.read (Elt Ideal) (res8 m c) := by
  rw [flushed8_A]
  have key : ∀ j : S1x512x512.Idx, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) j = res8 m c (((cfg0.win 8).blk t).view.emb j) := by
    intro j
    obtain ⟨d, l, rfl⟩ : ∃ (d l : Fin 512), j = ix3 (0 : Fin 1) d l := ⟨j 1, j 2, idx31 j⟩
    rw [emb8]
    exact pt8 m c t d l
  exact funext key

theorem cover8 (i : S2x512x4096.Idx) : ∃ t : Fin cfg0.N, (cfg0.win 8).flush t = true ∧ i ∈ ((cfg0.win 8).blk t).view.set := by
  have h0 : (i 0 : Nat) < 2 := (i 0).isLt
  have h1 : (i 1 : Nat) < 512 := (i 1).isLt
  have h2 : (i 2 : Nat) < 4096 := (i 2).isLt
  have hN : cfg0.N = 16 := N_0
  have hl : (i 0 : Nat) * 8 + (i 2 : Nat) / 512 < cfg0.N := by omega
  refine ⟨⟨(i 0 : Nat) * 8 + (i 2 : Nat) / 512, hl⟩, flush0_8 _, ?_⟩
  have e := View.emb_mem_set ((cfg0.win 8).blk ⟨(i 0 : Nat) * 8 + (i 2 : Nat) / 512, hl⟩).view (ix3 (0 : Fin 1) (⟨(i 1 : Nat), h1⟩ : Fin 512) (⟨(i 2 : Nat) % 512, by omega⟩ : Fin 512))
  rw [emb8] at e
  have h : ix3 (im ⟨(i 0 : Nat) * 8 + (i 2 : Nat) / 512, hl⟩) (⟨(i 1 : Nat), h1⟩ : Fin 512) (tok ⟨(i 0 : Nat) * 8 + (i 2 : Nat) / 512, hl⟩ ⟨(i 2 : Nat) % 512, by omega⟩) = i := by
    funext a
    apply Fin.ext
    match a with
    | ⟨0, _⟩ => show ((i 0 : Nat) * 8 + (i 2 : Nat) / 512) / 8 = (i 0 : Nat); omega
    | ⟨1, _⟩ => rfl
    | ⟨2, _⟩ => show ((i 0 : Nat) * 8 + (i 2 : Nat) / 512) % 8 * 512 + (i 2 : Nat) % 512 = (i 2 : Nat); omega
  rw [h] at e
  exact e

/-- The result array after the run. -/
theorem final8 : (dats m 0 c).arrAt 8 cfg0.N = res8 m c :=
  (dats m 0 c).arrAt_eq_of_cover 8 (res8 m c) (fun t _ => flushed_eq8 m c t) cover8

theorem pt9 (t : Fin cfg0.N) (d : Fin 512) (l : Fin 512) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (ix3 (0 : Fin 1) d l) = res9 m c (ix3 (im t) d (tok t l)) :=
  (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) d l).trans (congrArg (fun o => Soft.cd o d) (att_eq m c t l))

theorem flushed_eq9 (t : Fin cfg0.N) : (dats m 0 c).flushed 9 t = ((cfg0.win 9).blk t).view.read (Elt Ideal) (res9 m c) := by
  rw [flushed9_A]
  have key : ∀ j : S1x512x512.Idx, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) j = res9 m c (((cfg0.win 9).blk t).view.emb j) := by
    intro j
    obtain ⟨d, l, rfl⟩ : ∃ (d l : Fin 512), j = ix3 (0 : Fin 1) d l := ⟨j 1, j 2, idx31 j⟩
    rw [emb9]
    exact pt9 m c t d l
  exact funext key

theorem cover9 (i : S2x512x4096.Idx) : ∃ t : Fin cfg0.N, (cfg0.win 9).flush t = true ∧ i ∈ ((cfg0.win 9).blk t).view.set := by
  have h0 : (i 0 : Nat) < 2 := (i 0).isLt
  have h1 : (i 1 : Nat) < 512 := (i 1).isLt
  have h2 : (i 2 : Nat) < 4096 := (i 2).isLt
  have hN : cfg0.N = 16 := N_0
  have hl : (i 0 : Nat) * 8 + (i 2 : Nat) / 512 < cfg0.N := by omega
  refine ⟨⟨(i 0 : Nat) * 8 + (i 2 : Nat) / 512, hl⟩, flush0_9 _, ?_⟩
  have e := View.emb_mem_set ((cfg0.win 9).blk ⟨(i 0 : Nat) * 8 + (i 2 : Nat) / 512, hl⟩).view (ix3 (0 : Fin 1) (⟨(i 1 : Nat), h1⟩ : Fin 512) (⟨(i 2 : Nat) % 512, by omega⟩ : Fin 512))
  rw [emb9] at e
  have h : ix3 (im ⟨(i 0 : Nat) * 8 + (i 2 : Nat) / 512, hl⟩) (⟨(i 1 : Nat), h1⟩ : Fin 512) (tok ⟨(i 0 : Nat) * 8 + (i 2 : Nat) / 512, hl⟩ ⟨(i 2 : Nat) % 512, by omega⟩) = i := by
    funext a
    apply Fin.ext
    match a with
    | ⟨0, _⟩ => show ((i 0 : Nat) * 8 + (i 2 : Nat) / 512) / 8 = (i 0 : Nat); omega
    | ⟨1, _⟩ => rfl
    | ⟨2, _⟩ => show ((i 0 : Nat) * 8 + (i 2 : Nat) / 512) % 8 * 512 + (i 2 : Nat) % 512 = (i 2 : Nat); omega
  rw [h] at e
  exact e

/-- The result array after the run. -/
theorem final9 : (dats m 0 c).arrAt 9 cfg0.N = res9 m c :=
  (dats m 0 c).arrAt_eq_of_cover 9 (res9 m c) (fun t _ => flushed_eq9 m c t) cover9

theorem pt10 (t : Fin cfg0.N) (l : Fin 512) : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (ix3 (0 : Fin 1) (0 : Fin 1) l) = res10 m c (ix3 (im t) (0 : Fin 1) (tok t l)) :=
  (out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) l).trans (congrArg Soft.sc (att_eq m c t l))

theorem flushed_eq10 (t : Fin cfg0.N) : (dats m 0 c).flushed 10 t = ((cfg0.win 10).blk t).view.read (Elt Ideal) (res10 m c) := by
  rw [flushed10_A]
  have key : ∀ j : S1x1x512.Idx, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) j = res10 m c (((cfg0.win 10).blk t).view.emb j) := by
    intro j
    obtain ⟨l, rfl⟩ : ∃ l : Fin 512, j = ix3 (0 : Fin 1) (0 : Fin 1) l := ⟨j 2, idx311 j⟩
    rw [emb10]
    exact pt10 m c t l
  exact funext key

theorem cover10 (i : S2x1x4096.Idx) : ∃ t : Fin cfg0.N, (cfg0.win 10).flush t = true ∧ i ∈ ((cfg0.win 10).blk t).view.set := by
  have h0 : (i 0 : Nat) < 2 := (i 0).isLt
  have h1 : (i 1 : Nat) < 1 := (i 1).isLt
  have h2 : (i 2 : Nat) < 4096 := (i 2).isLt
  have hN : cfg0.N = 16 := N_0
  have hl : (i 0 : Nat) * 8 + (i 2 : Nat) / 512 < cfg0.N := by omega
  refine ⟨⟨(i 0 : Nat) * 8 + (i 2 : Nat) / 512, hl⟩, flush0_10 _, ?_⟩
  have e := View.emb_mem_set ((cfg0.win 10).blk ⟨(i 0 : Nat) * 8 + (i 2 : Nat) / 512, hl⟩).view (ix3 (0 : Fin 1) (⟨(i 1 : Nat), h1⟩ : Fin 1) (⟨(i 2 : Nat) % 512, by omega⟩ : Fin 512))
  rw [emb10] at e
  have h : ix3 (im ⟨(i 0 : Nat) * 8 + (i 2 : Nat) / 512, hl⟩) (⟨(i 1 : Nat), h1⟩ : Fin 1) (tok ⟨(i 0 : Nat) * 8 + (i 2 : Nat) / 512, hl⟩ ⟨(i 2 : Nat) % 512, by omega⟩) = i := by
    funext a
    apply Fin.ext
    match a with
    | ⟨0, _⟩ => show ((i 0 : Nat) * 8 + (i 2 : Nat) / 512) / 8 = (i 0 : Nat); omega
    | ⟨1, _⟩ => rfl
    | ⟨2, _⟩ => show ((i 0 : Nat) * 8 + (i 2 : Nat) / 512) % 8 * 512 + (i 2 : Nat) % 512 = (i 2 : Nat); omega
  rw [h] at e
  exact e

/-- The result array after the run. -/
theorem final10 : (dats m 0 c).arrAt 10 cfg0.N = res10 m c :=
  (dats m 0 c).arrAt_eq_of_cover 10 (res10 m c) (fun t _ => flushed_eq10 m c t) cover10

end Cert.KernelIdeal.Value
-- ==== Proof.RefA.lean ====
module

public import proofs.«01_k».proof.Proof.Gen.ReferenceIdeal.Value
public import proofs.«01_k».proof.Proof.Soft
public import Idealize.ShloMosaic.Lib.Pointwise

@[expose] public section

set_option maxRecDepth 16384
set_option maxHeartbeats 400000

noncomputable section

open Idealize.ShloMosaic Idealize.ShloMosaic.TcCoe Idealize.SL.Sem

namespace Cert.ReferenceIdeal.Gen

theorem sg_named : Named.named (F := Ideal) (φ := .f32) κ "score_scale" 0x3D3504F3#32 = ((Soft.sg : ℝ) : EReal) :=
  IdealRules.named_const.ideal_named_scalar _ _ _ _ rfl

/-- The scores of token `l` against all keys, of one image. -/
def rs (q : Vec Ideal S1x512x4096 .bf16) (k : Vec Ideal S1x4096x512 .bf16) (l j : Fin 4096) : EReal :=
  ∑ x : Fin 512, k (ix3 (0 : Fin 1) j x) * q (ix3 (0 : Fin 1) x l)

/-- The attention output of token `l`, of one image. -/
def ro (q : Vec Ideal S1x512x4096 .bf16) (k : Vec Ideal S1x4096x512 .bf16) (v : Vec Ideal S1x512x4096 .bf16) (l : Fin 4096) (d : Fin 512) : EReal :=
  Soft.ov (fun d j => v (ix3 (0 : Fin 1) d j)) (rs q k l) d

theorem R4 (q : Vec Ideal S1x512x4096 .bf16) (k : Vec Ideal S1x4096x512 .bf16) (v : Vec Ideal S1x512x4096 .bf16) (d : Fin 512) (l : Fin 4096) : k0_pay4 q k v (ix2 d l) = ro q k v l d := by
  pointwise [k0_pay4]
  have hm : ∀ j : Fin 4096, (∑ x : Fin 512, q (ix3 (0 : Fin 1) x l) * k (ix3 (0 : Fin 1) j x)) = rs q k l j :=
    fun j => Finset.sum_congr rfl fun x _ => mul_comm _ _
  simp only [sg_named, hm]
  rfl

theorem R17 (q : Vec Ideal S1x512x4096 .bf16) (k : Vec Ideal S1x4096x512 .bf16) (v : Vec Ideal S1x512x4096 .bf16) (d : Fin 512) (l : Fin 4096) : k0_pay17 q k v (ix2 d l) = ro q k v l d := by
  pointwise [k0_pay17]
  have hm : ∀ j : Fin 4096, (∑ x : Fin 512, q (ix3 (0 : Fin 1) x l) * k (ix3 (0 : Fin 1) j x)) = rs q k l j :=
    fun j => Finset.sum_congr rfl fun x _ => mul_comm _ _
  simp only [sg_named, hm]
  rfl

end Cert.ReferenceIdeal.Gen

end
-- ==== Proof.RefB.lean ====
module

public import proofs.«01_k».proof.Proof.Gen.ReferenceIdeal.Value
public import proofs.«01_k».proof.Proof.Soft
public import Idealize.ShloMosaic.Lib.Pointwise

@[expose] public section

set_option maxRecDepth 16384
set_option maxHeartbeats 400000

noncomputable section

open Idealize.ShloMosaic Idealize.ShloMosaic.TcCoe Idealize.SL.Sem

namespace Cert.ReferenceIdeal.Gen

/-- The code of an entry, from the exponent. -/
def code (x e : EReal) : EReal :=
  min (Ideal.ofBits .f32 0x43E00000#32) (max (Ideal.ofBits .f32 0xC3E00000#32) (x * Ideal.exp2 (Ideal.ofBits .f32 0x00000000#32 - e)))

variable (o : FVec Ideal S512x4096 .f32) (a : IVec S1x4096 1) (b z : FVec Ideal S1x4096 .f32)
  (w : Vec Ideal S512x512 .fp8e4m3) (so bo : Vec Ideal S512x1 .f32) (x : Vec Ideal S1x512x4096 .bf16) (d e : Fin 512) (l : Fin 4096)

theorem R16 : k0_pay16 (k0_pay10 a b z) (ix3 (0 : Fin 1) (0 : Fin 1) l) = Ideal.exp2 (k0_pay9 a b z (ix2 (0 : Fin 1) l)) := by
  unfold k0_pay16 k0_pay10
  generalize k0_pay9 a b z = y
  pointwise []
  rfl

theorem R3 : k0_pay3 (k0_pay21 b z) (ix3 (0 : Fin 1) (0 : Fin 1) l) = Ideal.exp2 (k0_pay20 b z (ix2 (0 : Fin 1) l)) := by
  unfold k0_pay3 k0_pay21
  generalize k0_pay20 b z = y
  pointwise []
  rfl

theorem R11 : k0_pay11 o a b z (ix2 d l) = code (o (ix2 d l)) (k0_pay9 a b z (ix2 (0 : Fin 1) l)) := by
  unfold k0_pay11 code
  generalize k0_pay9 a b z = y
  pointwise []
  first | done | rfl

theorem R22 : k0_pay22 o b z (ix2 d l) = code (o (ix2 d l)) (k0_pay20 b z (ix2 (0 : Fin 1) l)) := by
  unfold k0_pay22 code
  generalize k0_pay20 b z = y
  pointwise []
  first | done | rfl

theorem R15 (y : FVec Ideal S512x4096 .fp8e4m3) : k0_pay15 y (ix3 (0 : Fin 1) d l) = y (ix2 d l) := by pointwise [k0_pay15]

theorem R2 (y : FVec Ideal S512x4096 .fp8e4m3) : k0_pay2 y (ix3 (0 : Fin 1) d l) = y (ix2 d l) := by pointwise [k0_pay2]

end Cert.ReferenceIdeal.Gen

end
-- ==== Proof.RefC.lean ====
module

public import proofs.«01_k».proof.Proof.Gen.ReferenceIdeal.Value
public import proofs.«01_k».proof.Proof.Soft
public import Idealize.ShloMosaic.Lib.Pointwise

@[expose] public section

set_option maxRecDepth 16384
set_option maxHeartbeats 400000

noncomputable section

open Idealize.ShloMosaic Idealize.ShloMosaic.TcCoe Idealize.SL.Sem

namespace Cert.ReferenceIdeal.Gen

variable (o : FVec Ideal S512x4096 .f32) (a : IVec S1x4096 1) (b z : FVec Ideal S1x4096 .f32)
  (w : Vec Ideal S512x512 .fp8e4m3) (so bo : Vec Ideal S512x1 .f32) (x : Vec Ideal S1x512x4096 .bf16) (d e : Fin 512) (l : Fin 4096)

theorem R12 : k0_pay12 o a b z w so bo (ix2 e l) = (∑ d : Fin 512, w (ix2 d e) * k0_pay11 o a b z (ix2 d l)) * Ideal.exp2 (k0_pay9 a b z (ix2 (0 : Fin 1) l)) * so (ix2 e (0 : Fin 1)) + bo (ix2 e (0 : Fin 1)) := by
  unfold k0_pay12 k0_pay10
  generalize k0_pay9 a b z = y
  generalize k0_pay11 o a b z = y
  pointwise []
  first | done | rfl

theorem R23 : k0_pay23 o b z w so bo (ix2 e l) = (∑ d : Fin 512, w (ix2 d e) * k0_pay22 o b z (ix2 d l)) * Ideal.exp2 (k0_pay20 b z (ix2 (0 : Fin 1) l)) * so (ix2 e (0 : Fin 1)) + bo (ix2 e (0 : Fin 1)) := by
  unfold k0_pay23 k0_pay21
  generalize k0_pay20 b z = y
  generalize k0_pay22 o b z = y
  pointwise []
  first | done | rfl

theorem R13 : k0_pay13 o a b z w so bo x (ix3 (0 : Fin 1) e l) = x (ix3 (0 : Fin 1) e l) + k0_pay12 o a b z w so bo (ix2 e l) := by
  unfold k0_pay13
  generalize k0_pay12 o a b z w so bo = y
  pointwise []

theorem R24 : k0_pay24 o b z w so bo x (ix3 (0 : Fin 1) e l) = x (ix3 (0 : Fin 1) e l) + k0_pay23 o b z w so bo (ix2 e l) := by
  unfold k0_pay24
  generalize k0_pay23 o b z w so bo = y
  pointwise []

theorem R14 : k0_pay14 o a b z w so bo (ix3 (0 : Fin 1) e l) = k0_pay12 o a b z w so bo (ix2 e l) := by
  unfold k0_pay14
  generalize k0_pay12 o a b z w so bo = y
  pointwise []

theorem R1 (y : FVec Ideal S512x4096 .f32) : k0_pay1 y (ix3 (0 : Fin 1) e l) = y (ix2 e l) := by
  pointwise [k0_pay1]

end Cert.ReferenceIdeal.Gen

end
-- ==== Proof.RefD.lean ====
module

public import proofs.«01_k».proof.Proof.Gen.ReferenceIdeal.Value
public import proofs.«01_k».proof.Proof.Soft
public import Idealize.ShloMosaic.Lib.Pointwise

@[expose] public section

set_option maxRecDepth 16384
set_option maxHeartbeats 400000

noncomputable section

open Idealize.ShloMosaic Idealize.ShloMosaic.TcCoe Idealize.SL.Sem

namespace Cert.ReferenceIdeal.Gen

theorem R5a (o : FVec Ideal S512x4096 .f32) (l : Fin 4096) : multiReduction .maximumf [0] S4096 (absf o) 0xFF800000#32 reduces_S512x4096_S4096 (.inl rfl) rfl (ix1 l) = Finset.univ.fold max (Ideal.ofBits .f32 0xFF800000#32) (fun d : Fin 512 => FloatOps.absf (F := Ideal) (φ := .f32) (o (ix2 d l))) := by
  pointwise []

theorem R5b (u : FVec Ideal S4096 .f32) (l : Fin 4096) : mulf (shapeCast S1x4096 u shapeCasts_S4096_S1x4096) (broadcast S1x4096 (Scalar.ofBits (F := Ideal) .f32 0x3B124925#32)) (ix2 (0 : Fin 1) l) = u (ix1 l) * Ideal.ofBits .f32 0x3B124925#32 := by
  pointwise []

theorem R5 (q : Vec Ideal S1x512x4096 .bf16) (k : Vec Ideal S1x4096x512 .bf16) (v : Vec Ideal S1x512x4096 .bf16) (l : Fin 4096) : k0_pay5 q k v (ix2 (0 : Fin 1) l) = Soft.tt (fun d => k0_pay4 q k v (ix2 d l)) := by
  unfold k0_pay5
  exact (R5b _ l).trans (congrArg (· * Ideal.ofBits .f32 0x3B124925#32) (R5a (k0_pay4 q k v) l))

theorem R18 (q : Vec Ideal S1x512x4096 .bf16) (k : Vec Ideal S1x4096x512 .bf16) (v : Vec Ideal S1x512x4096 .bf16) (l : Fin 4096) : k0_pay18 q k v (ix2 (0 : Fin 1) l) = Soft.tt (fun d => k0_pay17 q k v (ix2 d l)) := by
  unfold k0_pay18
  exact (R5b _ l).trans (congrArg (· * Ideal.ofBits .f32 0x3B124925#32) (R5a (k0_pay17 q k v) l))

end Cert.ReferenceIdeal.Gen

end
-- ==== Proof.RefG.lean ====
module

public import proofs.«01_k».proof.Proof.Gen.ReferenceIdeal.Value
public import proofs.«01_k».proof.Proof.Soft
public import Idealize.ShloMosaic.Lib.Pointwise

@[expose] public section

set_option maxRecDepth 16384
set_option maxHeartbeats 400000

noncomputable section

open Idealize.ShloMosaic Idealize.ShloMosaic.TcCoe Idealize.SL.Sem

namespace Cert.ReferenceIdeal.Gen

theorem ln2_named : Named.named (F := Ideal) (φ := .f32) κ "ln2" 0x3F317218#32 = ((Real.log 2 : ℝ) : EReal) :=
  IdealRules.named_const.ideal_named_scalar _ _ _ _ rfl

theorem elog_sel (t : EReal) : Scalar.select (FloatOps.cmpf (F := Ideal) (φ := .f32) .olt t (Ideal.ofBits .f32 0x00800000#32)) (Ideal.ofBits .f32 0x00000000#32)
    (min (Ideal.liftRound Int.floor (Ideal.div (Ideal.log t) ((Real.log 2 : ℝ) : EReal)) + Ideal.ofBits .f32 0x3F800000#32) (Ideal.ofBits .f32 0x42FC0000#32)) = Quant.eLog t := by
  unfold Quant.eLog
  show Scalar.select (BitVec.ofBool (decide (t < Ideal.ofBits .f32 0x00800000#32))) _ _ = _
  by_cases h : t < Ideal.ofBits .f32 0x00800000#32
  · rw [if_pos h, decide_eq_true h]; rfl
  · rw [if_neg h, decide_eq_false h]; rfl

theorem A9 (a : IVec S1x4096 1) (b z : FVec Ideal S1x4096 .f32) (l : Fin 4096) : k0_pay9 a b z (ix2 (0 : Fin 1) l) = Scalar.select (a (ix2 (0 : Fin 1) l)) (z (ix2 (0 : Fin 1) l)) (b (ix2 (0 : Fin 1) l)) := rfl

theorem c6 (t : FVec Ideal S1x4096 .f32) (l : Fin 4096) : cmpf .olt t (broadcast S1x4096 (Scalar.ofBits (F := Ideal) .f32 0x00800000#32)) (ix2 (0 : Fin 1) l) = FloatOps.cmpf (F := Ideal) (φ := .f32) .olt (t (ix2 (0 : Fin 1) l)) (Ideal.ofBits .f32 0x00800000#32) := rfl

theorem A6 (q : Vec Ideal S1x512x4096 .bf16) (k : Vec Ideal S1x4096x512 .bf16) (v : Vec Ideal S1x512x4096 .bf16) (l : Fin 4096) : k0_pay6 q k v (ix2 (0 : Fin 1) l) = FloatOps.cmpf (F := Ideal) (φ := .f32) .olt (k0_pay5 q k v (ix2 (0 : Fin 1) l)) (Ideal.ofBits .f32 0x00800000#32) := by
  unfold k0_pay6
  exact c6 (k0_pay5 q k v) l

theorem A8 (l : Fin 4096) : k0_pay8 (F := Ideal) (ix2 (0 : Fin 1) l) = Ideal.ofBits .f32 0x00000000#32 := rfl

theorem c7 (t : FVec Ideal S1x4096 .f32) (l : Fin 4096) : minimumf (addf (floor (divf (log t) (broadcast S1x4096 (Named.named (F := Ideal) (φ := .f32) κ "ln2" 0x3F317218#32)))) (broadcast S1x4096 (Scalar.ofBits (F := Ideal) .f32 0x3F800000#32))) (broadcast S1x4096 (Scalar.ofBits (F := Ideal) .f32 0x42FC0000#32)) (ix2 (0 : Fin 1) l)
   = min (Ideal.liftRound Int.floor (Ideal.div (Ideal.log (t (ix2 (0 : Fin 1) l))) (Named.named (F := Ideal) (φ := .f32) κ "ln2" 0x3F317218#32)) + Ideal.ofBits .f32 0x3F800000#32) (Ideal.ofBits .f32 0x42FC0000#32) := rfl

theorem A7 (q : Vec Ideal S1x512x4096 .bf16) (k : Vec Ideal S1x4096x512 .bf16) (v : Vec Ideal S1x512x4096 .bf16) (l : Fin 4096) : k0_pay7 q k v (ix2 (0 : Fin 1) l) = min (Ideal.liftRound Int.floor (Ideal.div (Ideal.log (k0_pay5 q k v (ix2 (0 : Fin 1) l))) ((Real.log 2 : ℝ) : EReal)) + Ideal.ofBits .f32 0x3F800000#32) (Ideal.ofBits .f32 0x42FC0000#32) := by
  unfold k0_pay7
  refine (c7 (k0_pay5 q k v) l).trans ?_
  rw [ln2_named]

theorem g9 (q : Vec Ideal S1x512x4096 .bf16) (k : Vec Ideal S1x4096x512 .bf16) (v : Vec Ideal S1x512x4096 .bf16) (l : Fin 4096) : k0_pay9 (F := Ideal) (k0_pay6 q k v) (k0_pay7 q k v) k0_pay8 (ix2 (0 : Fin 1) l) = Quant.eLog (k0_pay5 q k v (ix2 (0 : Fin 1) l)) := by
  refine (A9 _ _ _ l).trans ?_
  rw [A6, A7, A8]
  exact elog_sel _

theorem c20 (t u : FVec Ideal S1x4096 .f32) (l : Fin 4096) : k0_pay20 t u (ix2 (0 : Fin 1) l) = Scalar.select (FloatOps.cmpf (F := Ideal) (φ := .f32) .olt (t (ix2 (0 : Fin 1) l)) (Ideal.ofBits .f32 0x00800000#32)) (Ideal.ofBits .f32 0x00000000#32)
    (min (u (ix2 (0 : Fin 1) l) + Ideal.ofBits .f32 0x3F800000#32) (Ideal.ofBits .f32 0x42FC0000#32)) := rfl

theorem c19 (t : FVec Ideal S1x4096 .f32) (l : Fin 4096) : floor (divf (log t) (broadcast S1x4096 (Named.named (F := Ideal) (φ := .f32) κ "ln2" 0x3F317218#32))) (ix2 (0 : Fin 1) l)
    = Ideal.liftRound Int.floor (Ideal.div (Ideal.log (t (ix2 (0 : Fin 1) l))) (Named.named (F := Ideal) (φ := .f32) κ "ln2" 0x3F317218#32)) := rfl

theorem A19 (q : Vec Ideal S1x512x4096 .bf16) (k : Vec Ideal S1x4096x512 .bf16) (v : Vec Ideal S1x512x4096 .bf16) (l : Fin 4096) : k0_pay19 q k v (ix2 (0 : Fin 1) l) = Ideal.liftRound Int.floor (Ideal.div (Ideal.log (k0_pay18 q k v (ix2 (0 : Fin 1) l))) ((Real.log 2 : ℝ) : EReal)) := by
  unfold k0_pay19
  refine (c19 (k0_pay18 q k v) l).trans ?_
  rw [ln2_named]

theorem g20 (q : Vec Ideal S1x512x4096 .bf16) (k : Vec Ideal S1x4096x512 .bf16) (v : Vec Ideal S1x512x4096 .bf16) (l : Fin 4096) : k0_pay20 (F := Ideal) (k0_pay18 q k v) (k0_pay19 q k v) (ix2 (0 : Fin 1) l) = Quant.eLog (k0_pay18 q k v (ix2 (0 : Fin 1) l)) := by
  refine (c20 _ _ l).trans ?_
  rw [A19]
  exact elog_sel _

end Cert.ReferenceIdeal.Gen

end
-- ==== Proof.RefH.lean ====
module

public import proofs.«01_k».proof.Proof.Spec
public import proofs.«01_k».proof.Proof.RefA
public import proofs.«01_k».proof.Proof.RefB
public import proofs.«01_k».proof.Proof.RefC
public import proofs.«01_k».proof.Proof.RefD
public import proofs.«01_k».proof.Proof.RefG
public import Idealize.ShloMosaic.Lib.Pointwise

@[expose] public section

set_option maxRecDepth 16384
set_option maxHeartbeats 200000

noncomputable section

open Idealize.ShloMosaic Idealize.ShloMosaic.TcCoe Idealize.SL.Sem

namespace Cert.ReferenceIdeal.Gen

theorem T0 (q : Vec Ideal S1x512x4096 .bf16) (k : Vec Ideal S1x4096x512 .bf16) (v : Vec Ideal S1x512x4096 .bf16) (l : Fin 4096) : k0_pay5 q k v (ix2 (0 : Fin 1) l) = Soft.tt (ro q k v l) :=
  (R5 q k v l).trans (congrArg Soft.tt (funext fun d => R4 q k v d l))

theorem E0 (q : Vec Ideal S1x512x4096 .bf16) (k : Vec Ideal S1x4096x512 .bf16) (v : Vec Ideal S1x512x4096 .bf16) (l : Fin 4096) : k0_pay9 (F := Ideal) (k0_pay6 q k v) (k0_pay7 q k v) k0_pay8 (ix2 (0 : Fin 1) l) = Quant.eLog (Soft.tt (ro q k v l)) :=
  (g9 q k v l).trans (congrArg Quant.eLog (T0 q k v l))

theorem C0 (q : Vec Ideal S1x512x4096 .bf16) (k : Vec Ideal S1x4096x512 .bf16) (v : Vec Ideal S1x512x4096 .bf16) (d : Fin 512) (l : Fin 4096) : k0_pay11 (k0_pay4 q k v) (k0_pay6 q k v) (k0_pay7 q k v) k0_pay8 (ix2 d l) = Soft.cd (ro q k v l) d :=
  (R11 _ _ _ _ d l).trans (congrArg₂ code (R4 q k v d l) (E0 q k v l))

theorem T1 (q : Vec Ideal S1x512x4096 .bf16) (k : Vec Ideal S1x4096x512 .bf16) (v : Vec Ideal S1x512x4096 .bf16) (l : Fin 4096) : k0_pay18 q k v (ix2 (0 : Fin 1) l) = Soft.tt (ro q k v l) :=
  (R18 q k v l).trans (congrArg Soft.tt (funext fun d => R17 q k v d l))

theorem E1 (q : Vec Ideal S1x512x4096 .bf16) (k : Vec Ideal S1x4096x512 .bf16) (v : Vec Ideal S1x512x4096 .bf16) (l : Fin 4096) : k0_pay20 (F := Ideal) (k0_pay18 q k v) (k0_pay19 q k v) (ix2 (0 : Fin 1) l) = Quant.eLog (Soft.tt (ro q k v l)) :=
  (g20 q k v l).trans (congrArg Quant.eLog (T1 q k v l))

theorem C1 (q : Vec Ideal S1x512x4096 .bf16) (k : Vec Ideal S1x4096x512 .bf16) (v : Vec Ideal S1x512x4096 .bf16) (d : Fin 512) (l : Fin 4096) : k0_pay22 (k0_pay17 q k v) (k0_pay18 q k v) (k0_pay19 q k v) (ix2 d l) = Soft.cd (ro q k v l) d :=
  (R22 _ _ _ d l).trans (congrArg₂ code (R17 q k v d l) (E1 q k v l))

theorem J0 (q : Vec Ideal S1x512x4096 .bf16) (k : Vec Ideal S1x4096x512 .bf16) (v : Vec Ideal S1x512x4096 .bf16) (w : Vec Ideal S512x512 .fp8e4m3) (so bo : Vec Ideal S512x1 .f32) (e : Fin 512) (l : Fin 4096) : k0_pay12 (k0_pay4 q k v) (k0_pay6 q k v) (k0_pay7 q k v) k0_pay8 w so bo (ix2 e l)
    = Soft.pj (fun d e => w (ix2 d e)) (fun e => so (ix2 e (0 : Fin 1))) (fun e => bo (ix2 e (0 : Fin 1))) (ro q k v l) e :=
  (R12 _ _ _ _ w so bo e l).trans (congrArg (· + bo (ix2 e (0 : Fin 1))) (congrArg (· * so (ix2 e (0 : Fin 1)))
    (congrArg₂ (· * ·) (Finset.sum_congr rfl fun d _ => congrArg (w (ix2 d e) * ·) (C0 q k v d l)) (congrArg Ideal.exp2 (E0 q k v l)))))

theorem J1 (q : Vec Ideal S1x512x4096 .bf16) (k : Vec Ideal S1x4096x512 .bf16) (v : Vec Ideal S1x512x4096 .bf16) (w : Vec Ideal S512x512 .fp8e4m3) (so bo : Vec Ideal S512x1 .f32) (e : Fin 512) (l : Fin 4096) : k0_pay23 (k0_pay17 q k v) (k0_pay18 q k v) (k0_pay19 q k v) w so bo (ix2 e l)
    = Soft.pj (fun d e => w (ix2 d e)) (fun e => so (ix2 e (0 : Fin 1))) (fun e => bo (ix2 e (0 : Fin 1))) (ro q k v l) e :=
  (R23 _ _ _ w so bo e l).trans (congrArg (· + bo (ix2 e (0 : Fin 1))) (congrArg (· * so (ix2 e (0 : Fin 1)))
    (congrArg₂ (· * ·) (Finset.sum_congr rfl fun d _ => congrArg (w (ix2 d e) * ·) (C1 q k v d l)) (congrArg Ideal.exp2 (E1 q k v l)))))

theorem zero1 (n : ℕ) : 0 + 1 * n = n := by omega

theorem l0 {e : EltTy} (x : Vec Ideal S2x512x4096 e) (d : Fin 512) (l : Fin 4096) : View.ld x r0_0 (ix3 (0 : Fin 1) d l) = x (ix3 (0 : Fin 2) d l) := by
  show x _ = x _
  refine congrArg x (funext fun a => Fin.ext ?_)
  match a with
  | ⟨0, _⟩ => rfl
  | ⟨1, _⟩ => exact zero1 _
  | ⟨2, _⟩ => exact zero1 _

theorem l5 {e : EltTy} (x : Vec Ideal S2x512x4096 e) (d : Fin 512) (l : Fin 4096) : View.ld x r0_5 (ix3 (0 : Fin 1) d l) = x (ix3 (1 : Fin 2) d l) := by
  show x _ = x _
  refine congrArg x (funext fun a => Fin.ext ?_)
  match a with
  | ⟨0, _⟩ => rfl
  | ⟨1, _⟩ => exact zero1 _
  | ⟨2, _⟩ => exact zero1 _

theorem l1 {e : EltTy} (x : Vec Ideal S2x4096x512 e) (d : Fin 512) (l : Fin 4096) : View.ld x r0_1 (ix3 (0 : Fin 1) l d) = x (ix3 (0 : Fin 2) l d) := by
  show x _ = x _
  refine congrArg x (funext fun a => Fin.ext ?_)
  match a with
  | ⟨0, _⟩ => rfl
  | ⟨1, _⟩ => exact zero1 _
  | ⟨2, _⟩ => exact zero1 _

theorem l6 {e : EltTy} (x : Vec Ideal S2x4096x512 e) (d : Fin 512) (l : Fin 4096) : View.ld x r0_6 (ix3 (0 : Fin 1) l d) = x (ix3 (1 : Fin 2) l d) := by
  show x _ = x _
  refine congrArg x (funext fun a => Fin.ext ?_)
  match a with
  | ⟨0, _⟩ => rfl
  | ⟨1, _⟩ => exact zero1 _
  | ⟨2, _⟩ => exact zero1 _

theorem l2 {e : EltTy} (x : Vec Ideal S512x512 e) (d e : Fin 512) : View.ld x r0_2 (ix2 d e) = x (ix2 d e) := by
  show x _ = x _
  refine congrArg x (funext fun a => Fin.ext ?_)
  match a with
  | ⟨0, _⟩ => exact zero1 _
  | ⟨1, _⟩ => exact zero1 _

theorem l3 {e : EltTy} (x : Vec Ideal S512x1 e) (d : Fin 512) : View.ld x r0_3 (ix2 d (0 : Fin 1)) = x (ix2 d (0 : Fin 1)) := by
  show x _ = x _
  refine congrArg x (funext fun a => Fin.ext ?_)
  match a with
  | ⟨0, _⟩ => exact zero1 _
  | ⟨1, _⟩ => exact zero1 _

theorem hc1 {e : EltTy} (p1 p0 : S1x512x4096.Idx → Elt Ideal e) (d : Fin 512) (l : Fin 4096) :
    View.canon [(⟨r0_5, p1⟩ : View.Piece (Elt Ideal) S2x512x4096 e), ⟨r0_0, p0⟩] (ix3 (1 : Fin 2) d l) = p1 (ix3 (0 : Fin 1) d l) := by
  refine Eq.trans (congrArg _ ?_) (View.canon_cons_emb r0_5 p1 [⟨r0_0, p0⟩] (ix3 (0 : Fin 1) d l))
  funext a
  refine Fin.ext ?_
  match a with
  | ⟨0, _⟩ => rfl
  | ⟨1, _⟩ => exact (zero1 _).symm
  | ⟨2, _⟩ => exact (zero1 _).symm

theorem hc0 {e : EltTy} (p1 p0 : S1x512x4096.Idx → Elt Ideal e) (d : Fin 512) (l : Fin 4096) :
    View.canon [(⟨r0_5, p1⟩ : View.Piece (Elt Ideal) S2x512x4096 e), ⟨r0_0, p0⟩] (ix3 (0 : Fin 2) d l) = p0 (ix3 (0 : Fin 1) d l) := by
  refine (View.canon_cons_of_not_mem _ _ fun hm => ?_).trans ?_
  · have h0 : _ ∈ (r0_5).set := hm
    unfold r0_5 at h0
    have h1 := (Rect.mem_set_unit.mp h0 0).1
    have h2 : ((ix3 (0 : Fin 2) d l : S2x512x4096.Idx) 0 : ℕ) = 0 := rfl
    rw [h2] at h1
    simp only [Matrix.cons_val_zero] at h1
    omega
  · refine Eq.trans (congrArg _ ?_) (View.canon_cons_emb r0_0 p0 [] (ix3 (0 : Fin 1) d l))
    funext a
    refine Fin.ext ?_
    match a with
    | ⟨0, _⟩ => rfl
    | ⟨1, _⟩ => exact (zero1 _).symm
    | ⟨2, _⟩ => exact (zero1 _).symm

theorem hz1 {e : EltTy} (p1 p0 : S1x1x4096.Idx → Elt Ideal e) (l : Fin 4096) :
    View.canon [(⟨r0_7, p1⟩ : View.Piece (Elt Ideal) S2x1x4096 e), ⟨r0_4, p0⟩] (ix3 (1 : Fin 2) (0 : Fin 1) l) = p1 (ix3 (0 : Fin 1) (0 : Fin 1) l) := by
  refine Eq.trans (congrArg _ ?_) (View.canon_cons_emb r0_7 p1 [⟨r0_4, p0⟩] (ix3 (0 : Fin 1) (0 : Fin 1) l))
  funext a
  refine Fin.ext ?_
  match a with
  | ⟨0, _⟩ => rfl
  | ⟨1, _⟩ => exact (zero1 _).symm
  | ⟨2, _⟩ => exact (zero1 _).symm

theorem hz0 {e : EltTy} (p1 p0 : S1x1x4096.Idx → Elt Ideal e) (l : Fin 4096) :
    View.canon [(⟨r0_7, p1⟩ : View.Piece (Elt Ideal) S2x1x4096 e), ⟨r0_4, p0⟩] (ix3 (0 : Fin 2) (0 : Fin 1) l) = p0 (ix3 (0 : Fin 1) (0 : Fin 1) l) := by
  refine (View.canon_cons_of_not_mem _ _ fun hm => ?_).trans ?_
  · have h0 : _ ∈ (r0_7).set := hm
    unfold r0_7 at h0
    have h1 := (Rect.mem_set_unit.mp h0 0).1
    have h2 : ((ix3 (0 : Fin 2) (0 : Fin 1) l : S2x1x4096.Idx) 0 : ℕ) = 0 := rfl
    rw [h2] at h1
    simp only [Matrix.cons_val_zero] at h1
    omega
  · refine Eq.trans (congrArg _ ?_) (View.canon_cons_emb r0_4 p0 [] (ix3 (0 : Fin 1) (0 : Fin 1) l))
    funext a
    refine Fin.ext ?_
    match a with
    | ⟨0, _⟩ => rfl
    | ⟨1, _⟩ => exact (zero1 _).symm
    | ⟨2, _⟩ => exact (zero1 _).symm

theorem O0 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (l : Fin 4096) : ro (View.ld x0 r0_0) (View.ld x1 r0_1) (View.ld x2 r0_0) l = Soft.aO (fun b d l => x0 (ix3 b d l)) (fun b d l => x1 (ix3 b d l)) (fun b d l => x2 (ix3 b d l)) 0 l := by
  funext d
  unfold ro Soft.aO
  refine congrArg₂ (fun f g => Soft.ov f g d) (funext fun d => funext fun j => l0 x2 d j) (funext fun j => ?_)
  exact Finset.sum_congr rfl fun z _ => congrArg₂ (· * ·) (l1 x1 z j) (l0 x0 z l)

theorem PJ0 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (o : Fin 512 → EReal) (e : Fin 512) : Soft.pj (fun d e => View.ld x4 r0_2 (ix2 d e)) (fun e => View.ld x5 r0_3 (ix2 e (0 : Fin 1))) (fun e => View.ld x6 r0_3 (ix2 e (0 : Fin 1))) o e
    = Soft.pj (fun d e => x4 (ix2 d e)) (fun e => x5 (ix2 e (0 : Fin 1))) (fun e => x6 (ix2 e (0 : Fin 1))) o e := by
  exact congrArg₂ (fun f g => f (g : Fin 512 → EReal)) (congrArg₂ (fun w so => fun bo => Soft.pj w so bo o e) (funext fun d => funext fun e => l2 x4 d e) (funext fun e => l3 x5 e)) (funext fun e => l3 x6 e)

theorem O1 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (l : Fin 4096) : ro (View.ld x0 r0_5) (View.ld x1 r0_6) (View.ld x2 r0_5) l = Soft.aO (fun b d l => x0 (ix3 b d l)) (fun b d l => x1 (ix3 b d l)) (fun b d l => x2 (ix3 b d l)) 1 l := by
  funext d
  unfold ro Soft.aO
  refine congrArg₂ (fun f g => Soft.ov f g d) (funext fun d => funext fun j => l5 x2 d j) (funext fun j => ?_)
  exact Finset.sum_congr rfl fun z _ => congrArg₂ (· * ·) (l6 x1 z j) (l5 x0 z l)

theorem PJ1 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (o : Fin 512 → EReal) (e : Fin 512) : Soft.pj (fun d e => View.ld x4 r0_2 (ix2 d e)) (fun e => View.ld x5 r0_3 (ix2 e (0 : Fin 1))) (fun e => View.ld x6 r0_3 (ix2 e (0 : Fin 1))) o e
    = Soft.pj (fun d e => x4 (ix2 d e)) (fun e => x5 (ix2 e (0 : Fin 1))) (fun e => x6 (ix2 e (0 : Fin 1))) o e := by
  exact congrArg₂ (fun f g => f (g : Fin 512 → EReal)) (congrArg₂ (fun w so => fun bo => Soft.pj w so bo o e) (funext fun d => funext fun e => l2 x4 d e) (funext fun e => l3 x5 e)) (funext fun e => l3 x6 e)

theorem ref10_0 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (l : Fin 4096) : out0_10 x0 x1 x2 x3 x4 x5 x6 (ix3 (0 : Fin 2) (0 : Fin 1) l) = Soft.aS (fun b d l => x0 (ix3 b d l)) (fun b d l => x1 (ix3 b d l)) (fun b d l => x2 (ix3 b d l)) 0 l := by
  unfold_out out0_10
  exact (hz0 _ _ l).trans ((R16 _ _ _ l).trans (congrArg Ideal.exp2 ((E0 (View.ld x0 r0_0) (View.ld x1 r0_1) (View.ld x2 r0_0) l).trans (congrArg (fun o => Quant.eLog (Soft.tt o)) (O0 x0 x1 x2 x3 x4 x5 x6 l)))))

theorem ref10_1 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (l : Fin 4096) : out0_10 x0 x1 x2 x3 x4 x5 x6 (ix3 (1 : Fin 2) (0 : Fin 1) l) = Soft.aS (fun b d l => x0 (ix3 b d l)) (fun b d l => x1 (ix3 b d l)) (fun b d l => x2 (ix3 b d l)) 1 l := by
  unfold_out out0_10
  exact (hz1 _ _ l).trans ((R3 _ _ l).trans (congrArg Ideal.exp2 ((E1 (View.ld x0 r0_5) (View.ld x1 r0_6) (View.ld x2 r0_5) l).trans (congrArg (fun o => Quant.eLog (Soft.tt o)) (O1 x0 x1 x2 x3 x4 x5 x6 l)))))

theorem ref9_0 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (d : Fin 512) (l : Fin 4096) : out0_9 x0 x1 x2 x3 x4 x5 x6 (ix3 (0 : Fin 2) d l) = Soft.aC (fun b d l => x0 (ix3 b d l)) (fun b d l => x1 (ix3 b d l)) (fun b d l => x2 (ix3 b d l)) 0 d l := by
  unfold_out out0_9
  exact (hc0 _ _ d l).trans ((R15 d l _).trans ((C0 (View.ld x0 r0_0) (View.ld x1 r0_1) (View.ld x2 r0_0) d l).trans (congrArg (fun o => Soft.cd o d) (O0 x0 x1 x2 x3 x4 x5 x6 l))))

theorem ref9_1 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (d : Fin 512) (l : Fin 4096) : out0_9 x0 x1 x2 x3 x4 x5 x6 (ix3 (1 : Fin 2) d l) = Soft.aC (fun b d l => x0 (ix3 b d l)) (fun b d l => x1 (ix3 b d l)) (fun b d l => x2 (ix3 b d l)) 1 d l := by
  unfold_out out0_9
  exact (hc1 _ _ d l).trans ((R2 d l _).trans ((C1 (View.ld x0 r0_5) (View.ld x1 r0_6) (View.ld x2 r0_5) d l).trans (congrArg (fun o => Soft.cd o d) (O1 x0 x1 x2 x3 x4 x5 x6 l))))

theorem ref8_0 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (e : Fin 512) (l : Fin 4096) : out0_8 x0 x1 x2 x3 x4 x5 x6 (ix3 (0 : Fin 2) e l) = Soft.aP (fun b d l => x0 (ix3 b d l)) (fun b d l => x1 (ix3 b d l)) (fun b d l => x2 (ix3 b d l)) (fun d e => x4 (ix2 d e)) (fun e => x5 (ix2 e (0 : Fin 1))) (fun e => x6 (ix2 e (0 : Fin 1))) 0 e l := by
  unfold_out out0_8
  exact (hc0 _ _ e l).trans ((R14 _ _ _ _ _ _ _ e l).trans ((J0 (View.ld x0 r0_0) (View.ld x1 r0_1) (View.ld x2 r0_0) (View.ld x4 r0_2) (View.ld x5 r0_3) (View.ld x6 r0_3) e l).trans ((PJ0 x0 x1 x2 x3 x4 x5 x6 _ e).trans (congrArg (fun o => Soft.pj (fun d e => x4 (ix2 d e)) (fun e => x5 (ix2 e (0 : Fin 1))) (fun e => x6 (ix2 e (0 : Fin 1))) o e) (O0 x0 x1 x2 x3 x4 x5 x6 l)))))

theorem ref8_1 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (e : Fin 512) (l : Fin 4096) : out0_8 x0 x1 x2 x3 x4 x5 x6 (ix3 (1 : Fin 2) e l) = Soft.aP (fun b d l => x0 (ix3 b d l)) (fun b d l => x1 (ix3 b d l)) (fun b d l => x2 (ix3 b d l)) (fun d e => x4 (ix2 d e)) (fun e => x5 (ix2 e (0 : Fin 1))) (fun e => x6 (ix2 e (0 : Fin 1))) 1 e l := by
  unfold_out out0_8
  exact (hc1 _ _ e l).trans ((R1 e l _).trans ((J1 (View.ld x0 r0_5) (View.ld x1 r0_6) (View.ld x2 r0_5) (View.ld x4 r0_2) (View.ld x5 r0_3) (View.ld x6 r0_3) e l).trans ((PJ1 x0 x1 x2 x3 x4 x5 x6 _ e).trans (congrArg (fun o => Soft.pj (fun d e => x4 (ix2 d e)) (fun e => x5 (ix2 e (0 : Fin 1))) (fun e => x6 (ix2 e (0 : Fin 1))) o e) (O1 x0 x1 x2 x3 x4 x5 x6 l)))))

theorem ref7_0 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (e : Fin 512) (l : Fin 4096) : out0_7 x0 x1 x2 x3 x4 x5 x6 (ix3 (0 : Fin 2) e l) = Soft.aY (fun b d l => x0 (ix3 b d l)) (fun b d l => x1 (ix3 b d l)) (fun b d l => x2 (ix3 b d l)) (fun b d l => x3 (ix3 b d l)) (fun d e => x4 (ix2 d e)) (fun e => x5 (ix2 e (0 : Fin 1))) (fun e => x6 (ix2 e (0 : Fin 1))) 0 e l := by
  unfold_out out0_7
  exact (hc0 _ _ e l).trans ((R13 _ _ _ _ _ _ _ _ e l).trans (congrArg₂ (· + ·) (l0 x3 e l) ((J0 (View.ld x0 r0_0) (View.ld x1 r0_1) (View.ld x2 r0_0) (View.ld x4 r0_2) (View.ld x5 r0_3) (View.ld x6 r0_3) e l).trans ((PJ0 x0 x1 x2 x3 x4 x5 x6 _ e).trans (congrArg (fun o => Soft.pj (fun d e => x4 (ix2 d e)) (fun e => x5 (ix2 e (0 : Fin 1))) (fun e => x6 (ix2 e (0 : Fin 1))) o e) (O0 x0 x1 x2 x3 x4 x5 x6 l))))))

theorem ref7_1 (x0 : Vec Ideal S2x512x4096 .bf16) (x1 : Vec Ideal S2x4096x512 .bf16) (x2 : Vec Ideal S2x512x4096 .bf16) (x3 : Vec Ideal S2x512x4096 .bf16) (x4 : Vec Ideal S512x512 .fp8e4m3) (x5 : Vec Ideal S512x1 .f32) (x6 : Vec Ideal S512x1 .f32) (e : Fin 512) (l : Fin 4096) : out0_7 x0 x1 x2 x3 x4 x5 x6 (ix3 (1 : Fin 2) e l) = Soft.aY (fun b d l => x0 (ix3 b d l)) (fun b d l => x1 (ix3 b d l)) (fun b d l => x2 (ix3 b d l)) (fun b d l => x3 (ix3 b d l)) (fun d e => x4 (ix2 d e)) (fun e => x5 (ix2 e (0 : Fin 1))) (fun e => x6 (ix2 e (0 : Fin 1))) 1 e l := by
  unfold_out out0_7
  exact (hc1 _ _ e l).trans ((R24 _ _ _ _ _ _ _ e l).trans (congrArg₂ (· + ·) (l5 x3 e l) ((J1 (View.ld x0 r0_5) (View.ld x1 r0_6) (View.ld x2 r0_5) (View.ld x4 r0_2) (View.ld x5 r0_3) (View.ld x6 r0_3) e l).trans ((PJ1 x0 x1 x2 x3 x4 x5 x6 _ e).trans (congrArg (fun o => Soft.pj (fun d e => x4 (ix2 d e)) (fun e => x5 (ix2 e (0 : Fin 1))) (fun e => x6 (ix2 e (0 : Fin 1))) o e) (O1 x0 x1 x2 x3 x4 x5 x6 l))))))

end Cert.ReferenceIdeal.Gen

end
-- ==== Proof.RefI.lean ====
module

public import proofs.«01_k».proof.Proof.RefH
public import proofs.«01_k».proof.Proof.Spec
public import proofs.«01_k».proof.Proof.Gen.ReferenceIdeal.Value
public import Idealize.ShloMosaic.Lib.Pointwise

@[expose] public section

set_option maxRecDepth 16384
set_option maxHeartbeats 200000

noncomputable section

open Idealize.ShloMosaic Idealize.ShloMosaic.TcCoe Idealize.SL.Sem

namespace Cert.ReferenceIdeal.Value

open Cert.ReferenceIdeal Cert.ReferenceIdeal.Gen

variable (m : (ℓ : Loc nD τ sig) → Buf (Elt Ideal) ℓ) (c : Dev nD)

/-- The arguments as functions of their places. -/
def aq (b : Fin 2) (d : Fin 512) (l : Fin 4096) : EReal := m ((c : Thread nD τ).loc main_arg0) (ix3 b d l)
def ak (b : Fin 2) (j : Fin 4096) (d : Fin 512) : EReal := m ((c : Thread nD τ).loc main_arg1) (ix3 b j d)
def av (b : Fin 2) (d : Fin 512) (j : Fin 4096) : EReal := m ((c : Thread nD τ).loc main_arg2) (ix3 b d j)
def ax (b : Fin 2) (d : Fin 512) (l : Fin 4096) : EReal := m ((c : Thread nD τ).loc main_arg3) (ix3 b d l)
def aw (d e : Fin 512) : EReal := m ((c : Thread nD τ).loc main_arg4) (ix2 d e)
def aso (e : Fin 512) : EReal := m ((c : Thread nD τ).loc main_arg5) (ix1 e)
def abo (e : Fin 512) : EReal := m ((c : Thread nD τ).loc main_arg6) (ix1 e)

/-- The four results as functions of the arguments. -/
def res7 : Vec Ideal S2x512x4096 .bf16 := fun i => Soft.aY (aq m c) (ak m c) (av m c) (ax m c) (aw m c) (aso m c) (abo m c) (i 0) (i 1) (i 2)
def res8 : Vec Ideal S2x512x4096 .bf16 := fun i => Soft.aP (aq m c) (ak m c) (av m c) (aw m c) (aso m c) (abo m c) (i 0) (i 1) (i 2)
def res9 : Vec Ideal S2x512x4096 .fp8e4m3 := fun i => Soft.aC (aq m c) (ak m c) (av m c) (i 0) (i 1) (i 2)
def res10 : Vec Ideal S2x1x4096 .f32 := fun i => Soft.aS (aq m c) (ak m c) (av m c) (i 0) (i 2)

theorem V5 (e : Fin 512) : (V m c main_v0 : Vec Ideal S512x1 .f32) (ix2 e (0 : Fin 1)) = aso m c e := by
  unfold V hostOps0
  after_results
  pointwise [aso]

theorem V6 (e : Fin 512) : (V m c main_v1 : Vec Ideal S512x1 .f32) (ix2 e (0 : Fin 1)) = abo m c e := by
  unfold V hostOps0
  after_results
  pointwise [abo]

theorem idx3 {n0 n1 n2 : Nat} (j : (⟨3, ![n0, n1, n2]⟩ : Shape).Idx) : j = ix3 (j 0) (j 1) (j 2) := by
  funext a
  match a with
  | ⟨0, _⟩ => rfl
  | ⟨1, _⟩ => rfl
  | ⟨2, _⟩ => rfl

theorem idx311 {n0 n2 : Nat} (j : (⟨3, ![n0, 1, n2]⟩ : Shape).Idx) : j = ix3 (j 0) (0 : Fin 1) (j 2) :=
  (idx3 j).trans (congrArg (fun z : Fin 1 => ix3 (j 0) z (j 2)) (Subsingleton.elim (α := Fin 1) _ _))

theorem at0 : ∀ t : Fin cfg0.N, ∀ a, win0_0.index t a = 0 :=
  (by decide +kernel : ∀ t : Fin grid0.N, ∀ a, win0_0.index t a = 0)

theorem emb0 (t : Fin cfg0.N) (j : S2x512x4096.Idx) : ((cfg0.win 0).blk t).view.emb j = j := by
  funext a
  apply Fin.ext
  match a with
  | ⟨0, _⟩ => show win0_0.index t 0 * 2 + 1 * (j 0 : Nat) = (j 0 : Nat); rw [at0 t 0]; omega
  | ⟨1, _⟩ => show win0_0.index t 1 * 512 + 1 * (j 1 : Nat) = (j 1 : Nat); rw [at0 t 1]; omega
  | ⟨2, _⟩ => show win0_0.index t 2 * 4096 + 1 * (j 2 : Nat) = (j 2 : Nat); rw [at0 t 2]; omega

theorem ib0 (t : Fin cfg0.N) : (iblk m c 0 t : Vec Ideal S2x512x4096 .bf16) = V m c main_arg0 := by
  funext j
  show V m c main_arg0 (((cfg0.win 0).blk t).view.emb j) = _
  rw [emb0]

theorem at1 : ∀ t : Fin cfg0.N, ∀ a, win0_1.index t a = 0 :=
  (by decide +kernel : ∀ t : Fin grid0.N, ∀ a, win0_1.index t a = 0)

theorem emb1 (t : Fin cfg0.N) (j : S2x4096x512.Idx) : ((cfg0.win 1).blk t).view.emb j = j := by
  funext a
  apply Fin.ext
  match a with
  | ⟨0, _⟩ => show win0_1.index t 0 * 2 + 1 * (j 0 : Nat) = (j 0 : Nat); rw [at1 t 0]; omega
  | ⟨1, _⟩ => show win0_1.index t 1 * 4096 + 1 * (j 1 : Nat) = (j 1 : Nat); rw [at1 t 1]; omega
  | ⟨2, _⟩ => show win0_1.index t 2 * 512 + 1 * (j 2 : Nat) = (j 2 : Nat); rw [at1 t 2]; omega

theorem ib1 (t : Fin cfg0.N) : (iblk m c 1 t : Vec Ideal S2x4096x512 .bf16) = V m c main_arg1 := by
  funext j
  show V m c main_arg1 (((cfg0.win 1).blk t).view.emb j) = _
  rw [emb1]

theorem at2 : ∀ t : Fin cfg0.N, ∀ a, win0_2.index t a = 0 :=
  (by decide +kernel : ∀ t : Fin grid0.N, ∀ a, win0_2.index t a = 0)

theorem emb2 (t : Fin cfg0.N) (j : S2x512x4096.Idx) : ((cfg0.win 2).blk t).view.emb j = j := by
  funext a
  apply Fin.ext
  match a with
  | ⟨0, _⟩ => show win0_2.index t 0 * 2 + 1 * (j 0 : Nat) = (j 0 : Nat); rw [at2 t 0]; omega
  | ⟨1, _⟩ => show win0_2.index t 1 * 512 + 1 * (j 1 : Nat) = (j 1 : Nat); rw [at2 t 1]; omega
  | ⟨2, _⟩ => show win0_2.index t 2 * 4096 + 1 * (j 2 : Nat) = (j 2 : Nat); rw [at2 t 2]; omega

theorem ib2 (t : Fin cfg0.N) : (iblk m c 2 t : Vec Ideal S2x512x4096 .bf16) = V m c main_arg2 := by
  funext j
  show V m c main_arg2 (((cfg0.win 2).blk t).view.emb j) = _
  rw [emb2]

theorem at3 : ∀ t : Fin cfg0.N, ∀ a, win0_3.index t a = 0 :=
  (by decide +kernel : ∀ t : Fin grid0.N, ∀ a, win0_3.index t a = 0)

theorem emb3 (t : Fin cfg0.N) (j : S2x512x4096.Idx) : ((cfg0.win 3).blk t).view.emb j = j := by
  funext a
  apply Fin.ext
  match a with
  | ⟨0, _⟩ => show win0_3.index t 0 * 2 + 1 * (j 0 : Nat) = (j 0 : Nat); rw [at3 t 0]; omega
  | ⟨1, _⟩ => show win0_3.index t 1 * 512 + 1 * (j 1 : Nat) = (j 1 : Nat); rw [at3 t 1]; omega
  | ⟨2, _⟩ => show win0_3.index t 2 * 4096 + 1 * (j 2 : Nat) = (j 2 : Nat); rw [at3 t 2]; omega

theorem ib3 (t : Fin cfg0.N) : (iblk m c 3 t : Vec Ideal S2x512x4096 .bf16) = V m c main_arg3 := by
  funext j
  show V m c main_arg3 (((cfg0.win 3).blk t).view.emb j) = _
  rw [emb3]

theorem at4 : ∀ t : Fin cfg0.N, ∀ a, win0_4.index t a = 0 :=
  (by decide +kernel : ∀ t : Fin grid0.N, ∀ a, win0_4.index t a = 0)

theorem emb4 (t : Fin cfg0.N) (j : S512x512.Idx) : ((cfg0.win 4).blk t).view.emb j = j := by
  funext a
  apply Fin.ext
  match a with
  | ⟨0, _⟩ => show win0_4.index t 0 * 512 + 1 * (j 0 : Nat) = (j 0 : Nat); rw [at4 t 0]; omega
  | ⟨1, _⟩ => show win0_4.index t 1 * 512 + 1 * (j 1 : Nat) = (j 1 : Nat); rw [at4 t 1]; omega

theorem ib4 (t : Fin cfg0.N) : (iblk m c 4 t : Vec Ideal S512x512 .fp8e4m3) = V m c main_arg4 := by
  funext j
  show V m c main_arg4 (((cfg0.win 4).blk t).view.emb j) = _
  rw [emb4]

theorem at5 : ∀ t : Fin cfg0.N, ∀ a, win0_5.index t a = 0 :=
  (by decide +kernel : ∀ t : Fin grid0.N, ∀ a, win0_5.index t a = 0)

theorem emb5 (t : Fin cfg0.N) (j : S512x1.Idx) : ((cfg0.win 5).blk t).view.emb j = j := by
  funext a
  apply Fin.ext
  match a with
  | ⟨0, _⟩ => show win0_5.index t 0 * 512 + 1 * (j 0 : Nat) = (j 0 : Nat); rw [at5 t 0]; omega
  | ⟨1, _⟩ => show win0_5.index t 1 * 1 + 1 * (j 1 : Nat) = (j 1 : Nat); rw [at5 t 1]; omega

theorem ib5 (t : Fin cfg0.N) : (iblk m c 5 t : Vec Ideal S512x1 .f32) = V m c main_v0 := by
  funext j
  show V m c main_v0 (((cfg0.win 5).blk t).view.emb j) = _
  rw [emb5]

theorem at6 : ∀ t : Fin cfg0.N, ∀ a, win0_6.index t a = 0 :=
  (by decide +kernel : ∀ t : Fin grid0.N, ∀ a, win0_6.index t a = 0)

theorem emb6 (t : Fin cfg0.N) (j : S512x1.Idx) : ((cfg0.win 6).blk t).view.emb j = j := by
  funext a
  apply Fin.ext
  match a with
  | ⟨0, _⟩ => show win0_6.index t 0 * 512 + 1 * (j 0 : Nat) = (j 0 : Nat); rw [at6 t 0]; omega
  | ⟨1, _⟩ => show win0_6.index t 1 * 1 + 1 * (j 1 : Nat) = (j 1 : Nat); rw [at6 t 1]; omega

theorem ib6 (t : Fin cfg0.N) : (iblk m c 6 t : Vec Ideal S512x1 .f32) = V m c main_v1 := by
  funext j
  show V m c main_v1 (((cfg0.win 6).blk t).view.emb j) = _
  rw [emb6]

theorem at7 : ∀ t : Fin cfg0.N, ∀ a, win0_7.index t a = 0 :=
  (by decide +kernel : ∀ t : Fin grid0.N, ∀ a, win0_7.index t a = 0)

theorem emb7 (t : Fin cfg0.N) (j : S2x512x4096.Idx) : ((cfg0.win 7).blk t).view.emb j = j := by
  funext a
  apply Fin.ext
  match a with
  | ⟨0, _⟩ => show win0_7.index t 0 * 2 + 1 * (j 0 : Nat) = (j 0 : Nat); rw [at7 t 0]; omega
  | ⟨1, _⟩ => show win0_7.index t 1 * 512 + 1 * (j 1 : Nat) = (j 1 : Nat); rw [at7 t 1]; omega
  | ⟨2, _⟩ => show win0_7.index t 2 * 4096 + 1 * (j 2 : Nat) = (j 2 : Nat); rw [at7 t 2]; omega

theorem at8 : ∀ t : Fin cfg0.N, ∀ a, win0_8.index t a = 0 :=
  (by decide +kernel : ∀ t : Fin grid0.N, ∀ a, win0_8.index t a = 0)

theorem emb8 (t : Fin cfg0.N) (j : S2x512x4096.Idx) : ((cfg0.win 8).blk t).view.emb j = j := by
  funext a
  apply Fin.ext
  match a with
  | ⟨0, _⟩ => show win0_8.index t 0 * 2 + 1 * (j 0 : Nat) = (j 0 : Nat); rw [at8 t 0]; omega
  | ⟨1, _⟩ => show win0_8.index t 1 * 512 + 1 * (j 1 : Nat) = (j 1 : Nat); rw [at8 t 1]; omega
  | ⟨2, _⟩ => show win0_8.index t 2 * 4096 + 1 * (j 2 : Nat) = (j 2 : Nat); rw [at8 t 2]; omega

theorem at9 : ∀ t : Fin cfg0.N, ∀ a, win0_9.index t a = 0 :=
  (by decide +kernel : ∀ t : Fin grid0.N, ∀ a, win0_9.index t a = 0)

theorem emb9 (t : Fin cfg0.N) (j : S2x512x4096.Idx) : ((cfg0.win 9).blk t).view.emb j = j := by
  funext a
  apply Fin.ext
  match a with
  | ⟨0, _⟩ => show win0_9.index t 0 * 2 + 1 * (j 0 : Nat) = (j 0 : Nat); rw [at9 t 0]; omega
  | ⟨1, _⟩ => show win0_9.index t 1 * 512 + 1 * (j 1 : Nat) = (j 1 : Nat); rw [at9 t 1]; omega
  | ⟨2, _⟩ => show win0_9.index t 2 * 4096 + 1 * (j 2 : Nat) = (j 2 : Nat); rw [at9 t 2]; omega

theorem at10 : ∀ t : Fin cfg0.N, ∀ a, win0_10.index t a = 0 :=
  (by decide +kernel : ∀ t : Fin grid0.N, ∀ a, win0_10.index t a = 0)

theorem emb10 (t : Fin cfg0.N) (j : S2x1x4096.Idx) : ((cfg0.win 10).blk t).view.emb j = j := by
  funext a
  apply Fin.ext
  match a with
  | ⟨0, _⟩ => show win0_10.index t 0 * 2 + 1 * (j 0 : Nat) = (j 0 : Nat); rw [at10 t 0]; omega
  | ⟨1, _⟩ => show win0_10.index t 1 * 1 + 1 * (j 1 : Nat) = (j 1 : Nat); rw [at10 t 1]; omega
  | ⟨2, _⟩ => show win0_10.index t 2 * 4096 + 1 * (j 2 : Nat) = (j 2 : Nat); rw [at10 t 2]; omega

theorem eqq : (fun b d l => (V m c main_arg0 : Vec Ideal S2x512x4096 .bf16) (ix3 b d l)) = aq m c := by rw [V_main_arg0]; rfl
theorem ek : (fun b d l => (V m c main_arg1 : Vec Ideal S2x4096x512 .bf16) (ix3 b d l)) = ak m c := by rw [V_main_arg1]; rfl
theorem ev : (fun b d l => (V m c main_arg2 : Vec Ideal S2x512x4096 .bf16) (ix3 b d l)) = av m c := by rw [V_main_arg2]; rfl
theorem ex : (fun b d l => (V m c main_arg3 : Vec Ideal S2x512x4096 .bf16) (ix3 b d l)) = ax m c := by rw [V_main_arg3]; rfl
theorem ew : (fun b d => (V m c main_arg4 : Vec Ideal S512x512 .fp8e4m3) (ix2 b d)) = aw m c := by rw [V_main_arg4]; rfl
theorem es : (fun e => (V m c main_v0 : Vec Ideal S512x1 .f32) (ix2 e (0 : Fin 1))) = aso m c := funext (V5 m c)
theorem eb : (fun e => (V m c main_v1 : Vec Ideal S512x1 .f32) (ix2 e (0 : Fin 1))) = abo m c := funext (V6 m c)

theorem pt7 (b : Fin 2) (d : Fin 512) (l : Fin 4096) : out0_7 (V m c main_arg0) (V m c main_arg1) (V m c main_arg2) (V m c main_arg3) (V m c main_arg4) (V m c main_v0) (V m c main_v1) (ix3 b d l) = res7 m c (ix3 b d l) := by
  match b with
  | 0 => rw [ref7_0, eqq m c, ek m c, ev m c, ex m c, ew m c, es m c, eb m c]; rfl
  | 1 => rw [ref7_1, eqq m c, ek m c, ev m c, ex m c, ew m c, es m c, eb m c]; rfl

theorem pt8 (b : Fin 2) (d : Fin 512) (l : Fin 4096) : out0_8 (V m c main_arg0) (V m c main_arg1) (V m c main_arg2) (V m c main_arg3) (V m c main_arg4) (V m c main_v0) (V m c main_v1) (ix3 b d l) = res8 m c (ix3 b d l) := by
  match b with
  | 0 => rw [ref8_0, eqq m c, ek m c, ev m c, ew m c, es m c, eb m c]; rfl
  | 1 => rw [ref8_1, eqq m c, ek m c, ev m c, ew m c, es m c, eb m c]; rfl

theorem pt9 (b : Fin 2) (d : Fin 512) (l : Fin 4096) : out0_9 (V m c main_arg0) (V m c main_arg1) (V m c main_arg2) (V m c main_arg3) (V m c main_arg4) (V m c main_v0) (V m c main_v1) (ix3 b d l) = res9 m c (ix3 b d l) := by
  match b with
  | 0 => rw [ref9_0, eqq m c, ek m c, ev m c]; rfl
  | 1 => rw [ref9_1, eqq m c, ek m c, ev m c]; rfl

theorem pt10 (b : Fin 2) (l : Fin 4096) : out0_10 (V m c main_arg0) (V m c main_arg1) (V m c main_arg2) (V m c main_arg3) (V m c main_arg4) (V m c main_v0) (V m c main_v1) (ix3 b (0 : Fin 1) l) = res10 m c (ix3 b (0 : Fin 1) l) := by
  match b with
  | 0 => rw [ref10_0, eqq m c, ek m c, ev m c]; rfl
  | 1 => rw [ref10_1, eqq m c, ek m c, ev m c]; rfl

theorem flushed_eq7 (t : Fin cfg0.N) : (dats m 0 c).flushed 7 t = ((cfg0.win 7).blk t).view.read (Elt Ideal) (res7 m c) := by
  rw [flushed7, ib0, ib1, ib2, ib3, ib4, ib5, ib6]
  have key : ∀ j : S2x512x4096.Idx, out0_7 (V m c main_arg0) (V m c main_arg1) (V m c main_arg2) (V m c main_arg3) (V m c main_arg4) (V m c main_v0) (V m c main_v1) j = res7 m c (((cfg0.win 7).blk t).view.emb j) := by
    intro j
    obtain ⟨b, d, l, rfl⟩ : ∃ (b : Fin 2) (d : Fin 512) (l : Fin 4096), j = ix3 b d l := ⟨j 0, j 1, j 2, idx3 j⟩
    rw [emb7]
    exact pt7 m c b d l
  exact funext key

theorem cover7 (i : S2x512x4096.Idx) : ∃ t : Fin cfg0.N, (cfg0.win 7).flush t = true ∧ i ∈ ((cfg0.win 7).blk t).view.set := by
  refine ⟨t0_0, flush0_7 _, ?_⟩
  have e := View.emb_mem_set ((cfg0.win 7).blk t0_0).view i
  rw [emb7] at e
  exact e

/-- The result array after the run. -/
theorem final7 : (dats m 0 c).arrAt 7 cfg0.N = res7 m c :=
  (dats m 0 c).arrAt_eq_of_cover 7 (res7 m c) (fun t _ => flushed_eq7 m c t) cover7

theorem flushed_eq8 (t : Fin cfg0.N) : (dats m 0 c).flushed 8 t = ((cfg0.win 8).blk t).view.read (Elt Ideal) (res8 m c) := by
  rw [flushed8, ib0, ib1, ib2, ib3, ib4, ib5, ib6]
  have key : ∀ j : S2x512x4096.Idx, out0_8 (V m c main_arg0) (V m c main_arg1) (V m c main_arg2) (V m c main_arg3) (V m c main_arg4) (V m c main_v0) (V m c main_v1) j = res8 m c (((cfg0.win 8).blk t).view.emb j) := by
    intro j
    obtain ⟨b, d, l, rfl⟩ : ∃ (b : Fin 2) (d : Fin 512) (l : Fin 4096), j = ix3 b d l := ⟨j 0, j 1, j 2, idx3 j⟩
    rw [emb8]
    exact pt8 m c b d l
  exact funext key

theorem cover8 (i : S2x512x4096.Idx) : ∃ t : Fin cfg0.N, (cfg0.win 8).flush t = true ∧ i ∈ ((cfg0.win 8).blk t).view.set := by
  refine ⟨t0_0, flush0_8 _, ?_⟩
  have e := View.emb_mem_set ((cfg0.win 8).blk t0_0).view i
  rw [emb8] at e
  exact e

/-- The result array after the run. -/
theorem final8 : (dats m 0 c).arrAt 8 cfg0.N = res8 m c :=
  (dats m 0 c).arrAt_eq_of_cover 8 (res8 m c) (fun t _ => flushed_eq8 m c t) cover8

theorem flushed_eq9 (t : Fin cfg0.N) : (dats m 0 c).flushed 9 t = ((cfg0.win 9).blk t).view.read (Elt Ideal) (res9 m c) := by
  rw [flushed9, ib0, ib1, ib2, ib3, ib4, ib5, ib6]
  have key : ∀ j : S2x512x4096.Idx, out0_9 (V m c main_arg0) (V m c main_arg1) (V m c main_arg2) (V m c main_arg3) (V m c main_arg4) (V m c main_v0) (V m c main_v1) j = res9 m c (((cfg0.win 9).blk t).view.emb j) := by
    intro j
    obtain ⟨b, d, l, rfl⟩ : ∃ (b : Fin 2) (d : Fin 512) (l : Fin 4096), j = ix3 b d l := ⟨j 0, j 1, j 2, idx3 j⟩
    rw [emb9]
    exact pt9 m c b d l
  exact funext key

theorem cover9 (i : S2x512x4096.Idx) : ∃ t : Fin cfg0.N, (cfg0.win 9).flush t = true ∧ i ∈ ((cfg0.win 9).blk t).view.set := by
  refine ⟨t0_0, flush0_9 _, ?_⟩
  have e := View.emb_mem_set ((cfg0.win 9).blk t0_0).view i
  rw [emb9] at e
  exact e

/-- The result array after the run. -/
theorem final9 : (dats m 0 c).arrAt 9 cfg0.N = res9 m c :=
  (dats m 0 c).arrAt_eq_of_cover 9 (res9 m c) (fun t _ => flushed_eq9 m c t) cover9

theorem flushed_eq10 (t : Fin cfg0.N) : (dats m 0 c).flushed 10 t = ((cfg0.win 10).blk t).view.read (Elt Ideal) (res10 m c) := by
  rw [flushed10, ib0, ib1, ib2, ib3, ib4, ib5, ib6]
  have key : ∀ j : S2x1x4096.Idx, out0_10 (V m c main_arg0) (V m c main_arg1) (V m c main_arg2) (V m c main_arg3) (V m c main_arg4) (V m c main_v0) (V m c main_v1) j = res10 m c (((cfg0.win 10).blk t).view.emb j) := by
    intro j
    obtain ⟨b, l, rfl⟩ : ∃ (b : Fin 2) (l : Fin 4096), j = ix3 b (0 : Fin 1) l := ⟨j 0, j 2, idx311 j⟩
    rw [emb10]
    exact pt10 m c b l
  exact funext key

theorem cover10 (i : S2x1x4096.Idx) : ∃ t : Fin cfg0.N, (cfg0.win 10).flush t = true ∧ i ∈ ((cfg0.win 10).blk t).view.set := by
  refine ⟨t0_0, flush0_10 _, ?_⟩
  have e := View.emb_mem_set ((cfg0.win 10).blk t0_0).view i
  rw [emb10] at e
  exact e

/-- The result array after the run. -/
theorem final10 : (dats m 0 c).arrAt 10 cfg0.N = res10 m c :=
  (dats m 0 c).arrAt_eq_of_cover 10 (res10 m c) (fun t _ => flushed_eq10 m c t) cover10

end Cert.ReferenceIdeal.Value
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.KernA
public import proofs.«01_k».proof.Proof.RefI

@[expose] public section

open Idealize.ShloMosaic Idealize.ShloMosaic.TcCoe Idealize.SL.Sem

namespace Cert.Proof

/-- Kernel and reference leave the same four results. -/
theorem algebraic : Cert.algebraic_KernelIdeal_ReferenceIdeal (hKernelIdeal := Cert.KernelIdeal.Gen.facts)
    (hReferenceIdeal := Cert.ReferenceIdeal.Gen.facts) := by
  intro m g m' g' _ agr
  have hq : ∀ c, ReferenceIdeal.Value.aq m' c = KernelIdeal.Value.aq m c := fun c => funext fun b => funext fun d => funext fun l => congrFun (agr c).1 _
  have hk : ∀ c, ReferenceIdeal.Value.ak m' c = KernelIdeal.Value.ak m c := fun c => funext fun b => funext fun d => funext fun l => congrFun (agr c).2.1 _
  have hv : ∀ c, ReferenceIdeal.Value.av m' c = KernelIdeal.Value.av m c := fun c => funext fun b => funext fun d => funext fun l => congrFun (agr c).2.2.1 _
  have hx : ∀ c, ReferenceIdeal.Value.ax m' c = KernelIdeal.Value.ax m c := fun c => funext fun b => funext fun d => funext fun l => congrFun (agr c).2.2.2.1 _
  have hw : ∀ c, ReferenceIdeal.Value.aw m' c = KernelIdeal.Value.aw m c := fun c => funext fun d => funext fun e => congrFun (agr c).2.2.2.2.1 _
  have hs : ∀ c, ReferenceIdeal.Value.aso m' c = KernelIdeal.Value.aso m c := fun c => funext fun e => congrFun (agr c).2.2.2.2.2.1 _
  have hb : ∀ c, ReferenceIdeal.Value.abo m' c = KernelIdeal.Value.abo m c := fun c => funext fun e => congrFun (agr c).2.2.2.2.2.2 _
  have h7 : ∀ c, ReferenceIdeal.Value.res7 m' c = KernelIdeal.Value.res7 m c := fun c => by
    unfold ReferenceIdeal.Value.res7 KernelIdeal.Value.res7
    rw [hq c, hk c, hv c, hx c, hw c, hs c, hb c]
  have h8 : ∀ c, ReferenceIdeal.Value.res8 m' c = KernelIdeal.Value.res8 m c := fun c => by
    unfold ReferenceIdeal.Value.res8 KernelIdeal.Value.res8
    rw [hq c, hk c, hv c, hw c, hs c, hb c]
  have h9 : ∀ c, ReferenceIdeal.Value.res9 m' c = KernelIdeal.Value.res9 m c := fun c => by
    unfold ReferenceIdeal.Value.res9 KernelIdeal.Value.res9
    rw [hq c, hk c, hv c]
  have h10 : ∀ c, ReferenceIdeal.Value.res10 m' c = KernelIdeal.Value.res10 m c := fun c => by
    unfold ReferenceIdeal.Value.res10 KernelIdeal.Value.res10
    rw [hq c, hk c, hv c]
  refine ⟨KernelIdeal.Value.res7 m, KernelIdeal.Value.res8 m, KernelIdeal.Value.res9 m, KernelIdeal.Value.res10 m, ?_, ?_⟩
  · exact (θ_run KernelIdeal.defs _ _).mono
      (fun _ h c => ⟨(h c).1.trans (KernelIdeal.Value.final7 m c), (h c).2.1.trans (KernelIdeal.Value.final8 m c),
        (h c).2.2.1.trans (KernelIdeal.Value.final9 m c), (h c).2.2.2.1.trans (KernelIdeal.Value.final10 m c), (h c).2.2.2.2⟩)
      (KernelIdeal.Value.run_blocks m g)
  · exact (θ_run ReferenceIdeal.defs _ _).mono
      (fun _ h c => ⟨(h c).1.trans ((ReferenceIdeal.Value.final7 m' c).trans (h7 c)), (h c).2.1.trans ((ReferenceIdeal.Value.final8 m' c).trans (h8 c)),
        (h c).2.2.1.trans ((ReferenceIdeal.Value.final9 m' c).trans (h9 c)), (h c).2.2.2.1.trans ((ReferenceIdeal.Value.final10 m' c).trans (h10 c)), (h c).2.2.2.2⟩)
      (ReferenceIdeal.Value.run_blocks m' g')

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    IdealRules.named_const.statement Cert.KernelIdeal.κ "score_scale_log2e" .f32 0x3D8293EE#32 _ rfl, algebraic⟩

end Cert.Proof
